-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x147456 : Shape := ⟨2, ![16, 147456]⟩
abbrev S8192x256 : Shape := ⟨2, ![8192, 256]⟩
abbrev S9216x256 : Shape := ⟨2, ![9216, 256]⟩
abbrev S_ : Shape := ⟨0, ![]⟩
abbrev S9216 : Shape := ⟨1, ![9216]⟩
abbrev S9216x1 : Shape := ⟨2, ![9216, 1]⟩
abbrev S8192 : Shape := ⟨1, ![8192]⟩
abbrev S256x8192 : Shape := ⟨2, ![256, 8192]⟩
abbrev S1x8192 : Shape := ⟨2, ![1, 8192]⟩
abbrev S9216x8192 : Shape := ⟨2, ![9216, 8192]⟩
abbrev S1x1 : Shape := ⟨2, ![1, 1]⟩
abbrev S128x256 : Shape := ⟨2, ![128, 256]⟩
abbrev S128x1 : Shape := ⟨2, ![128, 1]⟩
abbrev S128x8192 : Shape := ⟨2, ![128, 8192]⟩
abbrev S128 : Shape := ⟨1, ![128]⟩
abbrev S1x128x256 : Shape := ⟨3, ![1, 128, 256]⟩
abbrev S1 : Shape := ⟨1, ![1]⟩
abbrev S1x1x1 : Shape := ⟨3, ![1, 1, 1]⟩
abbrev S16x576 : Shape := ⟨2, ![16, 576]⟩
abbrev S16x576x8192 : Shape := ⟨3, ![16, 576, 8192]⟩
abbrev S1x576 : Shape := ⟨2, ![1, 576]⟩
abbrev S1x16x576 : Shape := ⟨3, ![1, 16, 576]⟩

abbrev nBuf : Space → Nat
  | .hbm => 27
  | .vmem => 16
  | .smem => 0
  | _ => 0

abbrev bufTy : (tb : Table) → Fin (tcTables nBuf tb) → BufTy
  | .hbm, ⟨0, _⟩ => ⟨S16x147456, .f32⟩
  | .hbm, ⟨1, _⟩ => ⟨S8192x256, .f32⟩
  | .hbm, ⟨2, _⟩ => ⟨S9216x256, .f32⟩
  | .hbm, ⟨3, _⟩ => ⟨S9216x256, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S256x8192, .f32⟩
  | .hbm, ⟨11, _⟩ => ⟨S1x8192, .f32⟩
  | .hbm, ⟨12, _⟩ => ⟨S9216x8192, .f32⟩
  | .hbm, ⟨13, _⟩ => ⟨S9216x1, .i32⟩
  | .hbm, ⟨14, _⟩ => ⟨S9216x256, .f32⟩
  | .hbm, ⟨15, _⟩ => ⟨S1x1, .f32⟩
  | .hbm, ⟨16, _⟩ => ⟨S16x576, .i32⟩
  | .hbm, ⟨17, _⟩ => ⟨S16x576x8192, .f32⟩
  | .hbm, ⟨18, _⟩ => ⟨S16x147456, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x1, .f32⟩
  | .hbm, ⟨26, _⟩ => ⟨S_, .f32⟩
  | .local _ .vmem, ⟨0, _⟩ => ⟨S128x256, .f32⟩
  | .local _ .vmem, ⟨1, _⟩ => ⟨S128x256, .f32⟩
  | .local _ .vmem, ⟨2, _⟩ => ⟨S256x8192, .f32⟩
  | .local _ .vmem, ⟨3, _⟩ => ⟨S8192x256, .f32⟩
  | .local _ .vmem, ⟨4, _⟩ => ⟨S128x1, .f32⟩
  | .local _ .vmem, ⟨5, _⟩ => ⟨S128x1, .f32⟩
  | .local _ .vmem, ⟨6, _⟩ => ⟨S1x8192, .f32⟩
  | .local _ .vmem, ⟨7, _⟩ => ⟨S128x8192, .f32⟩
  | .local _ .vmem, ⟨8, _⟩ => ⟨S128x8192, .f32⟩
  | .local _ .vmem, ⟨9, _⟩ => ⟨S128x1, .i32⟩
  | .local _ .vmem, ⟨10, _⟩ => ⟨S128x1, .i32⟩
  | .local _ .vmem, ⟨11, _⟩ => ⟨S128x256, .f32⟩
  | .local _ .vmem, ⟨12, _⟩ => ⟨S128x256, .f32⟩
  | .local _ .vmem, ⟨13, _⟩ => ⟨S1x1, .f32⟩
  | .local _ .vmem, ⟨14, _⟩ => ⟨S16x576, .i32⟩
  | .local _ .vmem, ⟨15, _⟩ => ⟨S1x1, .f32⟩
  | _, _ => ⟨S16x147456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc1_stg0_0 : Ref sig .tc := ⟨.vmem, 14, rfl⟩
abbrev cc1_stg1_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc1_sem0_0 : DmaSem sig := 14
abbrev cc1_sem1_0 : DmaSem sig := 15

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := .none

abbrev stage1_0 : Fin 1 → Memref sig .tc .vmem S16x576 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S16x147456 : Shape := ⟨2, ![16, 147456]⟩
abbrev S8192x256 : Shape := ⟨2, ![8192, 256]⟩
abbrev S9216x256 : Shape := ⟨2, ![9216, 256]⟩
abbrev S_ : Shape := ⟨0, ![]⟩
abbrev S9216 : Shape := ⟨1, ![9216]⟩
abbrev S9216x1 : Shape := ⟨2, ![9216, 1]⟩
abbrev S8192 : Shape := ⟨1, ![8192]⟩
abbrev S1x8192 : Shape := ⟨2, ![1, 8192]⟩
abbrev S9216x8192 : Shape := ⟨2, ![9216, 8192]⟩
abbrev S256x8192 : Shape := ⟨2, ![256, 8192]⟩
abbrev S16x576 : Shape := ⟨2, ![16, 576]⟩
abbrev S16x576x8192 : Shape := ⟨3, ![16, 576, 8192]⟩
abbrev S576x8192 : Shape := ⟨2, ![576, 8192]⟩

abbrev nBuf : Space → Nat
  | .hbm => 66
  | .vmem => 0
  | .smem => 0
  | _ => 0

abbrev bufTy : (tb : Table) → Fin (tcTables nBuf tb) → BufTy
  | .hbm, ⟨0, _⟩ => ⟨S16x147456, .f32⟩
  | .hbm, ⟨1, _⟩ => ⟨S8192x256, .f32⟩
  | .hbm, ⟨2, _⟩ => ⟨S9216x256, .f32⟩
  | .hbm, ⟨3, _⟩ => ⟨S9216x256, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S9216x8192, .f32⟩
  | .hbm, ⟨12, _⟩ => ⟨S9216x8192, .f32⟩
  | .hbm, ⟨13, _⟩ => ⟨S9216x8192, .f32⟩
  | .hbm, ⟨14, _⟩ => ⟨S256x8192, .f32⟩
  | .hbm, ⟨15, _⟩ => ⟨S9216x8192, .f32⟩
  | .hbm, ⟨16, _⟩ => ⟨S_, .f32⟩
  | .hbm, ⟨17, _⟩ => ⟨S9216x8192, .f32⟩
  | .hbm, ⟨18, _⟩ => ⟨S9216x8192, .f32⟩
  | .hbm, ⟨19, _⟩ => ⟨S9216x8192, .f32⟩
  | .hbm, ⟨20, _⟩ => ⟨S9216x8192, .i32⟩
  | .hbm, ⟨21, _⟩ => ⟨S_, .f32⟩
  | .hbm, ⟨22, _⟩ => ⟨S_, .i32⟩
  | .hbm, ⟨23, _⟩ => ⟨S9216, .f32⟩
  | .hbm, ⟨24, _⟩ => ⟨S9216, .i32⟩
  | .hbm, ⟨25, _⟩ => ⟨S9216x1, .i32⟩
  | .hbm, ⟨26, _⟩ => ⟨S1x8192, .i32⟩
  | .hbm, ⟨27, _⟩ => ⟨S9216x8192, .i32⟩
  | .hbm, ⟨28, _⟩ => ⟨S9216x8192, .i32⟩
  | .hbm, ⟨29, _⟩ => ⟨S9216x8192, .i1⟩
  | .hbm, ⟨30, _⟩ => ⟨S9216x8192, .f32⟩
  | .hbm, ⟨31, _⟩ => ⟨S16x576, .i32⟩
  | .hbm, ⟨32, _⟩ => ⟨S9216x256, .f32⟩
  | .hbm, ⟨33, _⟩ => ⟨S16x147456, .f32⟩
  | .hbm, ⟨34, _⟩ => ⟨S16x576x8192, .f32⟩
  | .hbm, ⟨35, _⟩ => ⟨S16x147456, .f32⟩
  | .hbm, ⟨36, _⟩ => ⟨S16x147456, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16x147456, .f32⟩
  | .hbm, ⟨42, _⟩ => ⟨S16x147456, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S16x147456, .f32⟩
  | .hbm, ⟨51, _⟩ => ⟨S16x147456, .f32⟩
  | .hbm, ⟨52, _⟩ => ⟨S_, .f32⟩
  | .hbm, ⟨53, _⟩ => ⟨S576x8192, .f32⟩
  | .hbm, ⟨54, _⟩ => ⟨S_, .f32⟩
  | .hbm, ⟨55, _⟩ => ⟨S576x8192, .f32⟩
  | .hbm, ⟨56, _⟩ => ⟨S576x8192, .f32⟩
  | .hbm, ⟨57, _⟩ => ⟨S_, .f32⟩
  | .hbm, ⟨58, _⟩ => ⟨S576x8192, .f32⟩
  | .hbm, ⟨59, _⟩ => ⟨S576x8192, .f32⟩
  | .hbm, ⟨60, _⟩ => ⟨S576x8192, .f32⟩
  | .hbm, ⟨61, _⟩ => ⟨S576x8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S16x147456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proof.Run.lean ====
/-
  THE KERNEL'S RUN, read: the launch of the two regions and the host stretches around them, with every buffer a program
  value lives in at its contents after the last stretch (`Gen.W5`, the fold of the stretches and the regions' write-backs
  over the launch contents).
-/
module

public import proofs.«01_k».proof.Proof.Gen.KernelIdeal.Frame

@[expose] public section

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the kernel's program terminates with each tensor
    value's buffer at its contents after the last host stretch. -/
theorem run : θ_run defs (onTc (τ := τ) (main (F := F))) ⟨m, fun _ => 0, ρ⟩ fun r =>
      ∀ c : Dev nD, ∀ b ∈ Pipeline.ucRefs τ sig, r.2.mem (((c : Thread nD τ)).1, b) = W5 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c => h c)

/-- The same, at the five results and the two arguments. -/
theorem run_results : θ_run defs (onTc (τ := τ) (main (F := F))) ⟨m, fun _ => 0, ρ⟩ fun r => ∀ c : Dev nD,
      r.2.mem ((c : Thread nD τ).loc main_v15) = W5 m ρ c (Proc.devRef .tc main_v15)
      ∧ r.2.mem ((c : Thread nD τ).loc main_v11) = W5 m ρ c (Proc.devRef .tc main_v11)
      ∧ r.2.mem ((c : Thread nD τ).loc main_v17) = W5 m ρ c (Proc.devRef .tc main_v17)
      ∧ r.2.mem ((c : Thread nD τ).loc main_v9) = W5 m ρ c (Proc.devRef .tc main_v9)
      ∧ r.2.mem ((c : Thread nD τ).loc main_v10) = W5 m ρ c (Proc.devRef .tc main_v10)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨h c _ (mem_uc main_v15 (by decide)), h c _ (mem_uc main_v11 (by decide)), h c _ (mem_uc main_v17 (by decide)),
        h c _ (mem_uc main_v9 (by decide)), h c _ (mem_uc main_v10 (by decide)),
        (h c _ (mem_uc main_arg0 (by decide))).trans (W5_main_arg0 m ρ c),
        (h c _ (mem_uc main_arg1 (by decide))).trans (W5_main_arg1 m ρ c)⟩)
    (run m ρ)

end Cert.KernelIdeal.Value

end
-- ==== Proof.FirstMin.lean ====
/-
  THE FIRST MINIMUM OF A ROW: the index of the smallest value, the lowest index on a tie, the values extended reals. The
  order is the lexicographic one on (value, index). What the kernel and the reference each compute is shown to be it:
  a minimum and a search for it, four such over four ranges of the row merged, and a fold over (value, index) pairs.
-/
module

public import Idealize.ShloMosaic.PureOps.Ideal.Laws
public import Idealize.ShloMosaic.Lib.ValueIdx
public import Idealize.ShloMosaic.Lib.Pipeline.Value
public import Mathlib.Data.Prod.Lex

@[expose] public section

noncomputable section

open Idealize.ShloMosaic

namespace Vq

variable {n : Nat}

/-- `i` is the index of the first minimum of `g`: (value, index) at `i` is the least of the pairs. -/
def FirstMin (g : Fin n → EReal) (i : Fin n) : Prop :=
  ∀ e, toLex (g i, i) ≤ toLex (g e, e)

/-- A row with an entry has a first minimum. -/
theorem exists_firstMin (h : 0 < n) (g : Fin n → EReal) : ∃ i, FirstMin g i := by
  haveI : Nonempty (Fin n) := ⟨⟨0, h⟩⟩
  obtain ⟨i, hi⟩ := Finite.exists_min (fun e : Fin n => toLex (g e, e))
  exact ⟨i, hi⟩

/-- A row has one first minimum. -/
theorem FirstMin.unique {g : Fin n → EReal} {i j : Fin n} (hi : FirstMin g i) (hj : FirstMin g j) : i = j := by
  have h := le_antisymm (hi j) (hj i)
  exact congrArg (fun p : EReal ×ₗ Fin n => (ofLex p).2) h

/-- The value at the first minimum is below every value. -/
theorem FirstMin.le {g : Fin n → EReal} {i : Fin n} (hi : FirstMin g i) (e : Fin n) : g i ≤ g e := by
  rcases Prod.Lex.le_iff.1 (hi e) with h | h
  · exact le_of_lt h
  · exact le_of_eq h.1

/-- An index whose value is the least is not below the first minimum. -/
theorem FirstMin.index_le {g : Fin n → EReal} {i : Fin n} (hi : FirstMin g i) (e : Fin n) (he : g e = g i) : i ≤ e := by
  rcases Prod.Lex.le_iff.1 (hi e) with h | h
  · exact absurd h (by rw [he]; exact lt_irrefl _)
  · exact h.2

open Classical in
/-- Two rows' first minima MERGED: the first minimum of the rows' pointwise minimum is the second row's when its value is
    smaller, or equal at a smaller index, else the first row's. -/
theorem FirstMin.merge {g₁ g₂ g₃ : Fin n → EReal} {i₁ i₂ : Fin n} (h₃ : ∀ e, g₃ e = min (g₁ e) (g₂ e))
    (h₁ : FirstMin g₁ i₁) (h₂ : FirstMin g₂ i₂) :
    FirstMin g₃ (if g₂ i₂ < g₁ i₁ ∨ (g₂ i₂ = g₁ i₁ ∧ i₂ < i₁) then i₂ else i₁)
      ∧ g₃ (if g₂ i₂ < g₁ i₁ ∨ (g₂ i₂ = g₁ i₁ ∧ i₂ < i₁) then i₂ else i₁)
          = (if g₂ i₂ < g₁ i₁ ∨ g₂ i₂ = g₁ i₁ then g₂ i₂ else g₁ i₁) := by
  have key : ∀ (i : Fin n) (v : EReal), g₃ i = v → toLex (v, i) ≤ toLex (g₁ i₁, i₁) → toLex (v, i) ≤ toLex (g₂ i₂, i₂) →
      FirstMin g₃ i := by
    intro i v hv ha hb e
    rw [hv, h₃ e]
    rcases min_choice (g₁ e) (g₂ e) with h | h <;> rw [h]
    · exact ha.trans (h₁ e)
    · exact hb.trans (h₂ e)
  by_cases hc : g₂ i₂ < g₁ i₁ ∨ (g₂ i₂ = g₁ i₁ ∧ i₂ < i₁)
  · have hlt : toLex (g₂ i₂, i₂) < toLex (g₁ i₁, i₁) := Prod.Lex.lt_iff.2 hc
    have hle : g₂ i₂ ≤ g₁ i₁ := by rcases hc with h | h; exacts [le_of_lt h, le_of_eq h.1]
    have hv : g₃ i₂ = g₂ i₂ := by rw [h₃]; exact min_eq_right (hle.trans (h₁.le i₂))
    rw [if_pos hc]
    refine ⟨key _ _ hv hlt.le le_rfl, ?_⟩
    rw [hv, if_pos (lt_or_eq_of_le hle)]
  · have hle' : toLex (g₁ i₁, i₁) ≤ toLex (g₂ i₂, i₂) := not_lt.1 fun h => hc (Prod.Lex.lt_iff.1 h)
    have hle : g₁ i₁ ≤ g₂ i₂ := by
      rcases Prod.Lex.le_iff.1 hle' with h | h; exacts [le_of_lt h, le_of_eq h.1]
    have hv : g₃ i₁ = g₁ i₁ := by rw [h₃]; exact min_eq_left (hle.trans (h₂.le i₁))
    rw [if_neg hc]
    refine ⟨key _ _ hv le_rfl hle', ?_⟩
    rw [hv]
    by_cases hd : g₂ i₂ < g₁ i₁ ∨ g₂ i₂ = g₁ i₁
    · rw [if_pos hd]
      rcases hd with h | h
      · exact absurd h (not_lt.2 hle)
      · exact h.symm
    · rw [if_neg hd]

/-! ## Index words -/

/-- A small index word read signed is the index. -/
theorem toInt_ofNat {e : Nat} (h : e < 2 ^ 31) : (BitVec.ofNat 32 e).toInt = (e : Int) := by
  rw [BitVec.toInt_eq_toNat_of_lt (by rw [BitVec.toNat_ofNat]; omega), BitVec.toNat_ofNat]
  omega

/-- Two small index words compare, signed, as the indices. -/
theorem slt_ofNat {a b : Nat} (ha : a < 2 ^ 31) (hb : b < 2 ^ 31) :
    IntOp.cmpi .slt (BitVec.ofNat 32 a) (BitVec.ofNat 32 b) = BitVec.ofBool (decide (a < b)) := by
  show BitVec.ofBool (BitVec.slt _ _) = _
  rw [BitVec.slt_eq_decide, toInt_ofNat ha, toInt_ofNat hb]
  congr 1
  simp

/-- The same for "at least". -/
theorem sge_ofNat {a b : Nat} (ha : a < 2 ^ 31) (hb : b < 2 ^ 31) :
    IntOp.cmpi .sge (BitVec.ofNat 32 a) (BitVec.ofNat 32 b) = BitVec.ofBool (decide (b ≤ a)) := by
  show BitVec.ofBool (BitVec.sle _ _) = _
  rw [BitVec.sle_eq_decide, toInt_ofNat ha, toInt_ofNat hb]
  congr 1
  simp

/-- Two small index words are equal exactly when the indices are. -/
theorem eq_ofNat {a b : Nat} (ha : a < 2 ^ 31) (hb : b < 2 ^ 31) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toInt h
    rw [toInt_ofNat ha, toInt_ofNat hb] at this
    exact_mod_cast this
  · intro h; rw [h]

/-! ## A minimum, and the search for it -/

/-- The fold of `min` from `+∞` over a row is the value at the row's first minimum. -/
theorem fold_min {g : Fin n → EReal} {i : Fin n} (h : FirstMin g i) :
    (Finset.univ : Finset (Fin n)).fold min (⊤ : EReal) g = g i := by
  refine eq_of_forall_le_iff fun c => ?_
  rw [Finset.le_fold_min]
  exact ⟨fun hc => hc.2 i (Finset.mem_univ i), fun hc => ⟨le_top, fun e _ => hc.trans (h.le e)⟩⟩

/-- A signed minimum fold is bounded below by exactly what bounds its start and its words below. -/
theorem le_fold_minsi {ι : Type} (s : Finset ι) (b c : BitVec 32) (f : ι → BitVec 32) :
    c.toInt ≤ (s.fold IntOp.minsi b f).toInt ↔ c.toInt ≤ b.toInt ∧ ∀ x ∈ s, c.toInt ≤ (f x).toInt := by
  refine Finset.fold_op_rel_iff_and (r := fun x y : BitVec 32 => x.toInt ≤ y.toInt) (op := IntOp.minsi) ?_
  intro x y z
  show x.toInt ≤ (IntOp.minsi y z).toInt ↔ _
  unfold IntOp.minsi
  rw [BitVec.slt_eq_decide]
  by_cases h : y.toInt < z.toInt
  · simp only [h, decide_true, if_true]; exact ⟨fun hx => ⟨hx, hx.trans h.le⟩, fun hx => hx.1⟩
  · simp only [h, decide_false, Bool.false_eq_true, if_false]
    exact ⟨fun hx => ⟨hx.trans (not_lt.1 h), hx⟩, fun hx => hx.2⟩

open Classical in
/-- THE SEARCH: the signed minimum, from the largest word, of the words that are the index where the row holds its least
    value and the row's length elsewhere, is the index of the first minimum. -/
theorem fold_search {g : Fin n → EReal} {i : Fin n} (hn : n < 2 ^ 31) (h : FirstMin g i) :
    (Finset.univ : Finset (Fin n)).fold IntOp.minsi 2147483647#32
        (fun e => if g e = g i then BitVec.ofNat 32 e.val else BitVec.ofNat 32 n) = BitVec.ofNat 32 i.val := by
  have hi := i.isLt
  apply BitVec.eq_of_toInt_eq
  apply le_antisymm
  · have := ((le_fold_minsi (Finset.univ : Finset (Fin n)) 2147483647#32 _
      (fun e => if g e = g i then BitVec.ofNat 32 e.val else BitVec.ofNat 32 n)).1 le_rfl).2 i (Finset.mem_univ i)
    rwa [if_pos rfl] at this
  · rw [le_fold_minsi]
    constructor
    · rw [toInt_ofNat (by omega), show ((2147483647#32 : BitVec 32)).toInt = 2147483647 from rfl]
      omega
    · intro e _
      have he := e.isLt
      split
      · rename_i hg
        rw [toInt_ofNat (by omega), toInt_ofNat (by omega)]
        exact_mod_cast h.index_le e hg
      · rw [toInt_ofNat (by omega), toInt_ofNat (by omega)]
        exact_mod_cast le_of_lt hi

/-! ## A fold over (value, index) pairs -/

/-- The key a (value, index word) pair is compared by. -/
def key (p : EReal × BitVec 32) : EReal ×ₗ ℤ := toLex (p.1, p.2.toInt)

/-- A left fold whose body keeps one of two pairs, one of least key, ends at one of the pairs, of least key. -/
theorem foldl_least (f : EReal × BitVec 32 → EReal × BitVec 32 → EReal × BitVec 32)
    (hf : ∀ a b, (f a b = a ∧ key a ≤ key b) ∨ (f a b = b ∧ key b ≤ key a)) (L : List (EReal × BitVec 32)) :
    ∀ init, (L.foldl f init = init ∨ L.foldl f init ∈ L)
      ∧ key (L.foldl f init) ≤ key init ∧ ∀ x ∈ L, key (L.foldl f init) ≤ key x := by
  induction L with
  | nil => intro init; exact ⟨Or.inl rfl, le_rfl, fun x hx => absurd hx List.not_mem_nil⟩
  | cons a L ih =>
    intro init
    obtain ⟨h1, h2, h3⟩ := ih (f init a)
    rw [List.foldl_cons]
    rcases hf init a with ⟨he, hk⟩ | ⟨he, hk⟩
    · rw [he] at h1 h2 h3 ⊢
      refine ⟨h1.imp id (List.mem_cons_of_mem a), h2, fun x hx => ?_⟩
      rcases List.mem_cons.1 hx with rfl | hx
      exacts [h2.trans hk, h3 x hx]
    · rw [he] at h1 h2 h3 ⊢
      refine ⟨Or.inr ?_, h2.trans hk, fun x hx => ?_⟩
      · rcases h1 with h | h
        · rw [h]; exact List.mem_cons_self
        · exact List.mem_cons_of_mem a h
      · rcases List.mem_cons.1 hx with rfl | hx
        exacts [h2, h3 x hx]

/-- THE FOLD over a row's (value, index) pairs, from (`+∞`, 0), ends at the pair of the first minimum. -/
theorem foldl_firstMin (f : EReal × BitVec 32 → EReal × BitVec 32 → EReal × BitVec 32)
    (hf : ∀ a b, (f a b = a ∧ key a ≤ key b) ∨ (f a b = b ∧ key b ≤ key a)) (L : List (EReal × BitVec 32))
    {g : Fin n → EReal} (hn : n < 2 ^ 31) (hL : ∀ x, x ∈ L ↔ ∃ e : Fin n, x = (g e, BitVec.ofNat 32 e.val))
    {i : Fin n} (hi : FirstMin g i) :
    L.foldl f (⊤, 0#32) = (g i, BitVec.ofNat 32 i.val) := by
  obtain ⟨h1, h2, h3⟩ := foldl_least f hf L (⊤, 0#32)
  have hlt := i.isLt
  have hex : ∃ e : Fin n, L.foldl f (⊤, 0#32) = (g e, BitVec.ofNat 32 e.val) := by
    rcases h1 with h | h
    · have h0 := h3 (g ⟨0, by omega⟩, BitVec.ofNat 32 0) ((hL _).2 ⟨⟨0, by omega⟩, rfl⟩)
      rw [h] at h0 ⊢
      refine ⟨⟨0, by omega⟩, ?_⟩
      rcases Prod.Lex.le_iff.1 h0 with h' | h'
      · exact absurd h' not_top_lt
      · exact Prod.ext h'.1 rfl
    · exact (hL _).1 h
  obtain ⟨e, he⟩ := hex
  have hfe : FirstMin g e := by
    intro e'
    have h4 := h3 (g e', BitVec.ofNat 32 e'.val) ((hL _).2 ⟨e', rfl⟩)
    rw [he] at h4
    have b1 := e.isLt
    have b2 := e'.isLt
    rw [Prod.Lex.le_iff]
    rcases Prod.Lex.le_iff.1 h4 with h' | h'
    · exact Or.inl h'
    · refine Or.inr ⟨h'.1, ?_⟩
      have h'' : (BitVec.ofNat 32 e.val).toInt ≤ (BitVec.ofNat 32 e'.val).toInt := h'.2
      rw [toInt_ofNat (by omega), toInt_ofNat (by omega)] at h''
      exact_mod_cast h''
  rw [he, hfe.unique hi]

end Vq
-- ==== Proof.Spec.lean ====
/-
  VECTOR QUANTIZATION on extended reals, as plain expressions over 9216 rows and 8192 code words of 256 entries: the
  distances, the code word chosen for each row, and the total squared error.
-/
module

public import proofs.«01_k».proof.Proof.FirstMin

@[expose] public section

noncomputable section

open Idealize.ShloMosaic
open scoped BigOperators

namespace Vq

variable (X : Fin 9216 → Fin 256 → EReal) (W : Fin 8192 → Fin 256 → EReal)

/-- The sum of squares of 256 entries. -/
def sumSq (x : Fin 256 → EReal) : EReal := ∑ k, x k * x k

/-- The distance from row `r` to code word `e`. -/
def distance (r : Fin 9216) (e : Fin 8192) : EReal :=
  (sumSq (X r) + sumSq (W e)) - Ideal.ofBits .f32 0x40000000#32 * ∑ k, X r k * W e k

/-- The code word chosen for row `r`: the first nearest. -/
def code (r : Fin 9216) : Fin 8192 := (exists_firstMin (by norm_num) (distance X W r)).choose

theorem code_spec (r : Fin 9216) : FirstMin (distance X W r) (code X W r) :=
  (exists_firstMin (by norm_num) (distance X W r)).choose_spec

/-- The chosen code word less the row. -/
def err (r : Fin 9216) (k : Fin 256) : EReal := W (code X W r) k - X r k

/-- The total squared error. -/
def total : EReal := ∑ r, ∑ k, err X W r k * err X W r k

/-- Row `p` of block `t`, of 72 blocks of 128 rows. -/
def row (t : Fin 72) (p : Fin 128) : Fin 9216 := ⟨t.val * 128 + p.val, by omega⟩

/-- The blocks' rows are all the rows: a sum over the rows is the sum over the blocks of the sums over their rows. -/
theorem sum_rows (f : Fin 9216 → EReal) : ∑ r, f r = ∑ t : Fin 72, ∑ p : Fin 128, f (row t p) := by
  rw [← Fintype.sum_prod_type' (f := fun (t : Fin 72) (p : Fin 128) => f (row t p))]
  refine Fintype.sum_equiv (finProdFinEquiv (m := 72) (n := 128)).symm _ _ fun r => ?_
  refine congrArg f (Fin.ext ?_)
  show r.val = r.val / 128 * 128 + r.val % 128
  omega

end Vq
-- ==== Proof.BlockValue.lean ====
/-
  ONE BLOCK OF ROWS, read at an index: what the kernel's first region computes of a block of 128 rows. The distances to
  the 8192 code words, the index of the first smallest one (four ranges of code words searched apart and merged), the
  one-hot row, the chosen code word (the one-hot row's product with the code book), the result row and the block's
  squared error.
-/
module

public import proofs.«01_k».proof.Proof.FirstMin
public import proofs.«01_k».proof.Proof.Gen.KernelIdeal.Skeleton

@[expose] public section

noncomputable section

open Idealize.ShloMosaic Idealize.ShloMosaic.ValueIdx Idealize.SL.Sem

namespace Cert.KernelIdeal.Value

open Cert.KernelIdeal Cert.KernelIdeal.Gen Vq

/-- The column numbers of a block of distances. -/
abbrev cols : IVec S128x8192 32 := iota .tc S128x8192 32 [1] iota_S128x8192_d1_w32

/-- A block of distances with `+∞` outside the columns from `lo` to before `hi`. -/
abbrev masked (lo hi : BitVec 32) (d : FVec Ideal S128x8192 .f32) : FVec Ideal S128x8192 .f32 :=
  select (andi (cmpi .sge cols (broadcast S128x8192 lo)) (cmpi .slt cols (broadcast S128x8192 hi))) d
    (broadcast S128x8192 (Scalar.ofBits .f32 0x7F800000#32))

/-- The search of a block for each row's least value. -/
abbrev searched (v : FVec Ideal S128x8192 .f32) : IVec S128x1 32 :=
  shapeCast S128x1 (multiReductionI .minsi [1] S128
    (select (cmpf .oeq v (broadcastTo S128x8192 (k0_pay8 v) broadcasts_S128x1_S128x8192)) cols (broadcast S128x8192 8192#32))
    2147483647#32 reduces_S128x8192_S128 rfl) shapeCasts_S128_S128x1

/-- A column of 128 read as a 128 x 1 block. -/
theorem col_apply {α : Type} (v : S128.Idx → α) (p : Fin 128) : shapeCast S128x1 v shapeCasts_S128_S128x1 (ix2 p 0) = v (ix1 p) :=
  shapeCast_apply v _ _ _ (by
    rw [Shape.rowMajor_val_one, Shape.rowMajor_val_two]
    show p.val = p.val * 1 + 0
    omega)

/-- A 128 x 1 block broadcast along the columns. -/
theorem bcol_apply {α : Type} (v : S128x1.Idx → α) (p : Fin 128) (e : Fin 8192) :
    broadcastTo S128x8192 v broadcasts_S128x1_S128x8192 (ix2 p e) = v (ix2 p 0) :=
  broadcastTo_apply v _ _ _ fun a => match a with
    | ⟨0, _⟩ => rfl
    | ⟨1, _⟩ => rfl

/-- A 1 x 8192 row broadcast along the rows. -/
theorem brow_apply {α : Type} (v : S1x8192.Idx → α) (p : Fin 128) (e : Fin 8192) :
    broadcastTo S128x8192 v broadcasts_S1x8192_S128x8192 (ix2 p e) = v (ix2 0 e) :=
  broadcastTo_apply v _ _ _ fun a => match a with
    | ⟨0, _⟩ => rfl
    | ⟨1, _⟩ => rfl

theorem cols_apply (p : Fin 128) (e : Fin 8192) : cols (ix2 p e) = BitVec.ofNat 32 e.val :=
  iota_single_apply _ _ _ _ _ _

/-- The row index with a column put back. -/
theorem lift_apply (p : Fin 128) (e : Fin 8192) :
    (reduces_S128x8192_S128).lift (ix1 p) e = (ix2 p e : S128x8192.Idx) :=
  Shape.idx_ext₂ rfl rfl

/-- A row's minimum, taken by the kernel, is its value at the first minimum. -/
theorem pay8_apply (v : FVec Ideal S128x8192 .f32) (p : Fin 128) (i : Fin 8192) (h : FirstMin (fun e => v (ix2 p e)) i) :
    k0_pay8 v (ix2 p 0) = v (ix2 p i) := by
  unfold k0_pay8
  refine (col_apply _ p).trans ?_
  refine (multiReduction_minimumf_eq_fold v _ _ _ _ _).trans ?_
  classical
  refine (Shape.Reduces.fold_filter_drop_single _ _ _ _ _).trans ?_
  refine Eq.trans ?_ (fold_min h)
  show Finset.fold min (Ideal.ofBits .f32 0x7F800000#32) _ _ = _
  rw [show Ideal.ofBits .f32 0x7F800000#32 = (⊤ : EReal) from by simp [Ideal.ofBits, Ideal.ieee]]
  congr 1
  funext e
  exact congrArg v (lift_apply p e)

/-- The word the search of a row reads at a column: the column where the value is the row's least, else 8192. -/
theorem searchWord (v : FVec Ideal S128x8192 .f32) (p : Fin 128) (i : Fin 8192) (h : FirstMin (fun e => v (ix2 p e)) i)
    (e : Fin 8192) [Decidable (v (ix2 p e) = v (ix2 p i))] :
    select (cmpf .oeq v (broadcastTo S128x8192 (k0_pay8 v) broadcasts_S128x1_S128x8192)) cols (broadcast S128x8192 8192#32) (ix2 p e)
      = if v (ix2 p e) = v (ix2 p i) then BitVec.ofNat 32 e.val else BitVec.ofNat 32 8192 := by
  rw [select_apply, cmpf_apply, cols_apply, broadcast_apply, bcol_apply, pay8_apply v p i h]
  show Scalar.select (Ideal.cmp .oeq (v (ix2 p e)) (v (ix2 p i))) _ _ = _
  unfold Ideal.cmp
  by_cases hv : v (ix2 p e) = v (ix2 p i)
  · rw [if_pos hv]; simp only [hv, decide_true]; rfl
  · rw [if_neg hv]; simp only [hv, decide_false]; rfl

/-- The kernel's search of a row finds its first minimum. -/
theorem searched_apply (v : FVec Ideal S128x8192 .f32) (p : Fin 128) (i : Fin 8192) (h : FirstMin (fun e => v (ix2 p e)) i) :
    searched v (ix2 p 0) = BitVec.ofNat 32 i.val := by
  refine (col_apply _ p).trans ?_
  refine (multiReductionI_eq_fold .minsi _ _ _ _ _).trans ?_
  classical
  refine (Shape.Reduces.fold_filter_drop_single _ _ _ _ _).trans ?_
  refine Eq.trans ?_ (fold_search (by norm_num) h)
  show Finset.fold IntOp.minsi 2147483647#32 _ _ = _
  congr 1
  funext e
  exact (congrArg _ (lift_apply p e)).trans (searchWord v p i h e)

/-- A masked block at an index. -/
theorem masked_apply (lo hi : Nat) (hlo : lo < 2 ^ 31) (hhi : hi < 2 ^ 31) (d : FVec Ideal S128x8192 .f32) (p : Fin 128)
    (e : Fin 8192) :
    masked (BitVec.ofNat 32 lo) (BitVec.ofNat 32 hi) d (ix2 p e) = if lo ≤ e.val ∧ e.val < hi then d (ix2 p e) else ⊤ := by
  have he := e.isLt
  show Scalar.select (IntOp.andi (IntOp.cmpi .sge (cols (ix2 p e)) _) (IntOp.cmpi .slt (cols (ix2 p e)) _)) _
    (Ideal.ofBits .f32 0x7F800000#32) = _
  rw [show Ideal.ofBits .f32 0x7F800000#32 = (⊤ : EReal) from by simp [Ideal.ofBits, Ideal.ieee], cols_apply]
  show Scalar.select (IntOp.andi (IntOp.cmpi .sge _ (BitVec.ofNat 32 lo)) (IntOp.cmpi .slt _ (BitVec.ofNat 32 hi))) _ _ = _
  rw [sge_ofNat (by omega) hlo, slt_ofNat (by omega) hhi]
  by_cases h1 : lo ≤ e.val <;> by_cases h2 : e.val < hi <;> simp [h1, h2] <;> rfl

/-- The merge of two searches by value, then by index: the index kept. -/
abbrev mergeI (a : FVec Ideal S128x1 .f32) (ia : IVec S128x1 32) (b : FVec Ideal S128x1 .f32) (ib : IVec S128x1 32) : IVec S128x1 32 :=
  select (ori (cmpf .olt a b) (andi (cmpf .oeq a b) (cmpi .slt ia ib))) ia ib

/-- The merge of two searches: the value kept. -/
abbrev mergeV (a b : FVec Ideal S128x1 .f32) : FVec Ideal S128x1 .f32 := select (ori (cmpf .olt a b) (cmpf .oeq a b)) a b

/-- A merge of two searches of a row is the search of the pointwise minimum of what they searched. -/
theorem merge_apply (a b : FVec Ideal S128x1 .f32) (ia ib : IVec S128x1 32) (p : Fin 128) (g h : Fin 8192 → EReal) (i j : Fin 8192)
    (hi : FirstMin g i) (hj : FirstMin h j) (ea : a (ix2 p 0) = g i) (eb : b (ix2 p 0) = h j)
    (eia : ia (ix2 p 0) = BitVec.ofNat 32 i.val) (eib : ib (ix2 p 0) = BitVec.ofNat 32 j.val) :
    ∃ k, FirstMin (fun e => min (h e) (g e)) k ∧ mergeV a b (ix2 p 0) = min (h k) (g k)
      ∧ mergeI a ia b ib (ix2 p 0) = BitVec.ofNat 32 k.val := by
  classical
  have bi := i.isLt
  have bj := j.isLt
  obtain ⟨f, w⟩ := FirstMin.merge (g₃ := fun e => min (h e) (g e)) (fun _ => rfl) hj hi
  refine ⟨_, f, ?_, ?_⟩
  · refine Eq.trans ?_ w.symm
    show Scalar.select (IntOp.ori (BitVec.ofBool (decide (a (ix2 p 0) < b (ix2 p 0))))
      (BitVec.ofBool (decide (a (ix2 p 0) = b (ix2 p 0))))) (a (ix2 p 0)) (b (ix2 p 0)) = _
    rw [ea, eb]
    by_cases h1 : g i < h j <;> by_cases h2 : g i = h j <;> simp [h1, h2] <;> rfl
  · show Scalar.select (IntOp.ori (BitVec.ofBool (decide (a (ix2 p 0) < b (ix2 p 0))))
      (IntOp.andi (BitVec.ofBool (decide (a (ix2 p 0) = b (ix2 p 0)))) (IntOp.cmpi .slt (ia (ix2 p 0)) (ib (ix2 p 0)))))
      (ia (ix2 p 0)) (ib (ix2 p 0)) = _
    rw [ea, eb, eia, eib, slt_ofNat (by omega) (by omega)]
    have e3 : (i < j) ↔ i.val < j.val := Iff.rfl
    by_cases h1 : g i < h j <;> by_cases h2 : g i = h j <;> by_cases h3 : i.val < j.val <;> simp [h1, h2, h3, e3] <;> rfl

variable (v0 : Vec Ideal S128x256 .f32) (v2 : Vec Ideal S256x8192 .f32) (v5 : Vec Ideal S128x1 .f32) (v7 : Vec Ideal S1x8192 .f32)

/-- The index the kernel stores for a block, over the block's inputs. -/
abbrev blockIdx : IVec S128x1 32 :=
  k0_pay19 cols
    (k0_pay16 (k0_pay2 v0 v2 v5 v7) cols (k0_pay5 v0 v2 v5 v7) (k0_pay6 v0 v2 v5 v7) (k0_pay7 v0 v2 v5 v7))
    (k0_pay17 (k0_pay2 v0 v2 v5 v7) cols (k0_pay6 v0 v2 v5 v7) (k0_pay7 v0 v2 v5 v7))
    (k0_pay18 (k0_pay2 v0 v2 v5 v7) cols)

/-- Narrowed to bf16 and widened again, an exact value is itself. -/
theorem narrow_widen (a : FVec Ideal S128x1 .f32) :
    extf .f32 (truncf .bf16 a bitsLt_bf16_f32 : FVec Ideal S128x1 .bf16) bitsLt_bf16_f32 = a := rfl

/-- The stored index as the merges it is. -/
theorem blockIdx_eq (d : FVec Ideal S128x8192 .f32) (hd : k0_pay2 v0 v2 v5 v7 = d) (M1 M2 M3 M4 : FVec Ideal S128x8192 .f32)
    (h1 : M1 = masked (BitVec.ofNat 32 0) (BitVec.ofNat 32 2736) d) (h2 : M2 = masked (BitVec.ofNat 32 2736) (BitVec.ofNat 32 4096) d)
    (h3 : M3 = masked (BitVec.ofNat 32 4096) (BitVec.ofNat 32 5472) d) (h4 : M4 = masked (BitVec.ofNat 32 5472) (BitVec.ofNat 32 8192) d) :
    blockIdx v0 v2 v5 v7
      = mergeI (k0_pay8 M4) (searched M4) (mergeV (k0_pay8 M3) (mergeV (k0_pay8 M2) (k0_pay8 M1)))
          (mergeI (k0_pay8 M3) (searched M3) (mergeV (k0_pay8 M2) (k0_pay8 M1))
            (mergeI (k0_pay8 M2) (searched M2) (k0_pay8 M1) (searched M1))) := by
  have e3 : k0_pay3 v0 v2 v5 v7 = M1 := by unfold k0_pay3; rw [h1, hd]
  have e4 : k0_pay4 v0 v2 v5 v7 = k0_pay8 M1 := by unfold k0_pay4; rw [e3]; rfl
  have e5 : k0_pay5 v0 v2 v5 v7 = searched M1 := by unfold k0_pay5; rw [e3, e4]
  have e6 : k0_pay6 v0 v2 v5 v7 = k0_pay8 M1 := by unfold k0_pay6; rw [e4]; exact narrow_widen _
  have e7 : k0_pay7 v0 v2 v5 v7 = M2 := by unfold k0_pay7; rw [h2, hd]
  have e12 : k0_pay12 d cols = M3 := by rw [h3]; rfl
  have e18 : k0_pay18 d cols = M4 := by rw [h4]; rfl
  have e13 : k0_pay13 d cols = k0_pay8 M3 := by unfold k0_pay13; rw [e12]; rfl
  have e17 : k0_pay17 d cols (k0_pay8 M1) M2 = mergeV (k0_pay8 M3) (mergeV (k0_pay8 M2) (k0_pay8 M1)) := by
    unfold k0_pay17 k0_pay14 k0_pay15; rw [e13]; exact narrow_widen _
  unfold blockIdx
  rw [hd, e5, e6, e7, e17, e18]
  unfold k0_pay19 k0_pay16 k0_pay14 k0_pay15
  rw [e13, e12]
  rfl

/-- THE INDEX the kernel stores for a row is that of the row's first smallest distance. -/
theorem blockIdx_apply (p : Fin 128) (i : Fin 8192) (hi : FirstMin (fun e => k0_pay2 v0 v2 v5 v7 (ix2 p e)) i) :
    blockIdx v0 v2 v5 v7 (ix2 p 0) = BitVec.ofNat 32 i.val := by
  obtain ⟨d, hd⟩ : ∃ d, k0_pay2 v0 v2 v5 v7 = d := ⟨_, rfl⟩
  obtain ⟨M1, h1⟩ : ∃ M, M = masked (BitVec.ofNat 32 0) (BitVec.ofNat 32 2736) d := ⟨_, rfl⟩
  obtain ⟨M2, h2⟩ : ∃ M, M = masked (BitVec.ofNat 32 2736) (BitVec.ofNat 32 4096) d := ⟨_, rfl⟩
  obtain ⟨M3, h3⟩ : ∃ M, M = masked (BitVec.ofNat 32 4096) (BitVec.ofNat 32 5472) d := ⟨_, rfl⟩
  obtain ⟨M4, h4⟩ : ∃ M, M = masked (BitVec.ofNat 32 5472) (BitVec.ofNat 32 8192) d := ⟨_, rfl⟩
  rw [blockIdx_eq v0 v2 v5 v7 d hd M1 M2 M3 M4 h1 h2 h3 h4]
  rw [hd] at hi
  have hmin : ∀ e : Fin 8192, min (min (min (M1 (ix2 p e)) (M2 (ix2 p e))) (M3 (ix2 p e))) (M4 (ix2 p e)) = d (ix2 p e) := by
    intro e
    have he := e.isLt
    rw [h1, h2, h3, h4, masked_apply _ _ (by norm_num) (by norm_num), masked_apply _ _ (by norm_num) (by norm_num),
      masked_apply _ _ (by norm_num) (by norm_num), masked_apply _ _ (by norm_num) (by norm_num)]
    by_cases a1 : e.val < 2736
    · rw [if_pos ⟨by omega, a1⟩, if_neg (by omega), if_neg (by omega), if_neg (by omega)]; simp
    by_cases a2 : e.val < 4096
    · rw [if_neg (by omega), if_pos (by omega), if_neg (by omega), if_neg (by omega)]; simp
    by_cases a3 : e.val < 5472
    · rw [if_neg (by omega), if_neg (by omega), if_pos (by omega), if_neg (by omega)]; simp
    · rw [if_neg (by omega), if_neg (by omega), if_neg (by omega), if_pos (by omega)]; simp
  clear h1 h2 h3 h4 hd
  obtain ⟨i1, f1⟩ := exists_firstMin (n := 8192) (by norm_num) (fun e => M1 (ix2 p e))
  obtain ⟨i2, f2⟩ := exists_firstMin (n := 8192) (by norm_num) (fun e => M2 (ix2 p e))
  obtain ⟨i3, f3⟩ := exists_firstMin (n := 8192) (by norm_num) (fun e => M3 (ix2 p e))
  obtain ⟨i4, f4⟩ := exists_firstMin (n := 8192) (by norm_num) (fun e => M4 (ix2 p e))
  obtain ⟨j2, g2, ev2, ei2⟩ := merge_apply (k0_pay8 M2) (k0_pay8 M1) (searched M2) (searched M1) p _ _ i2 i1 f2 f1
    (pay8_apply _ _ _ f2) (pay8_apply _ _ _ f1) (searched_apply _ _ _ f2) (searched_apply _ _ _ f1)
  obtain ⟨j3, g3, ev3, ei3⟩ := merge_apply (k0_pay8 M3) _ (searched M3) _ p _ _ i3 j2 f3 g2
    (pay8_apply _ _ _ f3) ev2 (searched_apply _ _ _ f3) ei2
  obtain ⟨j4, g4, ev4, ei4⟩ := merge_apply (k0_pay8 M4) _ (searched M4) _ p _ _ i4 j3 f4 g3
    (pay8_apply _ _ _ f4) ev3 (searched_apply _ _ _ f4) ei3
  rw [ei4]
  have := funext hmin
  rw [this] at g4
  rw [hi.unique g4]

end Cert.KernelIdeal.Value
-- ==== Proof.BlockRow.lean ====
/-
  ONE BLOCK OF ROWS, read at an index, continued: the distances, the one-hot row, the result row and the squared error of
  a block, each as the plain expression it is on extended reals.
-/
module

public import proofs.«01_k».proof.Proof.BlockValue

@[expose] public section

noncomputable section

open Idealize.ShloMosaic Idealize.ShloMosaic.ValueIdx Idealize.SL.Sem
open scoped BigOperators

namespace Cert.KernelIdeal.Value

open Cert.KernelIdeal Cert.KernelIdeal.Gen Vq

/-- The product of a block of rows with the transposed code book, at an index. -/
theorem dot0_apply (a : FVec Ideal S128x256 .f32) (b : FVec Ideal S256x8192 .f32) (p : Fin 128) (e : Fin 8192) :
    matmul dot_S128x256_S256x8192_S128x8192_1_0_0_1_n_n none a b (constant S128x8192 .f32 0x00000000#32) (ix2 p e)
      = ∑ k : Fin 256, a (ix2 p k) * b (ix2 k e) := by
  simp only [matmul]
  rw [Ideal.matmul_constant_zero_apply,
    ← Equiv.sum_comp (contrEquiv1 dot_S128x256_S256x8192_S128x8192_1_0_0_1_n_n 256 rfl rfl).symm]
  refine Finset.sum_congr rfl fun k _ => ?_
  congr 1
  · exact congrArg a (Shape.idx_ext₂ rfl rfl)
  · exact congrArg b (Shape.idx_ext₂ rfl rfl)

/-- The product of a block of one-hot rows with the code book, at an index. -/
theorem dot1_apply (a : FVec Ideal S128x8192 .f32) (b : FVec Ideal S8192x256 .f32) (p : Fin 128) (k : Fin 256) :
    matmul dot_S128x8192_S8192x256_S128x256_1_0_0_1_n_n none a b (constant S128x256 .f32 0x00000000#32) (ix2 p k)
      = ∑ e : Fin 8192, a (ix2 p e) * b (ix2 e k) := by
  simp only [matmul]
  rw [Ideal.matmul_constant_zero_apply,
    ← Equiv.sum_comp (contrEquiv1 dot_S128x8192_S8192x256_S128x256_1_0_0_1_n_n 8192 rfl rfl).symm]
  refine Finset.sum_congr rfl fun e _ => ?_
  congr 1
  · exact congrArg a (Shape.idx_ext₂ rfl rfl)
  · exact congrArg b (Shape.idx_ext₂ rfl rfl)

/-- THE DISTANCES of a block: the row's sum of squares plus the code word's, less twice their product. -/
theorem pay2_apply (v0 : Vec Ideal S128x256 .f32) (v2 : Vec Ideal S256x8192 .f32) (v5 : Vec Ideal S128x1 .f32)
    (v7 : Vec Ideal S1x8192 .f32) (p : Fin 128) (e : Fin 8192) :
    k0_pay2 v0 v2 v5 v7 (ix2 p e)
      = (v5 (ix2 p 0) + v7 (ix2 0 e)) - Ideal.ofBits .f32 0x40000000#32 * ∑ k : Fin 256, v0 (ix2 p k) * v2 (ix2 k e) := by
  unfold k0_pay2 k0_pay1
  simp only [shapeCast_self]
  rw [subf_apply, addf_apply, mulf_apply, bcol_apply, brow_apply, broadcast_apply, dot0_apply]
  rfl

/-- The sum of a row against a one-hot row is the entry picked. -/
theorem sum_onehot {n : Nat} (i : Fin n) (w : Fin n → EReal) : ∑ e, (if e = i then (1 : EReal) else 0) * w e = w i := by
  rw [Finset.sum_eq_single i]
  · rw [if_pos rfl, one_mul]
  · intro e _ he; rw [if_neg he, zero_mul]
  · intro h; exact absurd (Finset.mem_univ i) h

variable (v15 : IVec S128x8192 32) (v76 : IVec S128x1 32) (v80 : FVec Ideal S128x1 .f32) (v87 : FVec Ideal S128x8192 .f32)

/-- THE ONE-HOT ROW of a block. -/
theorem pay20_apply (p : Fin 128) (e i : Fin 8192) (hi : k0_pay19 cols v76 v80 v87 (ix2 p 0) = BitVec.ofNat 32 i.val) :
    k0_pay20 cols v76 v80 v87 (ix2 p e) = if e = i then 1 else 0 := by
  have be := e.isLt
  have bi := i.isLt
  unfold k0_pay20
  rw [sitofp_apply, extui_apply]
  show FloatOps.sitofp (F := Ideal) .f32 ((IntOp.cmpi .eq (cols (ix2 p e))
    (broadcastTo S128x8192 (k0_pay19 cols v76 v80 v87) broadcasts_S128x1_S128x8192 (ix2 p e))).setWidth 32) = _
  rw [cols_apply, bcol_apply, hi, eq_ofNat (by omega) (by omega)]
  by_cases h : e = i
  · subst h
    rw [if_pos rfl, decide_eq_true rfl]
    show (((1 : ℤ) : ℝ) : EReal) = 1
    simp
  · rw [if_neg h, decide_eq_false (fun h' => h (Fin.ext h'))]
    show (((0 : ℤ) : ℝ) : EReal) = 0
    simp

/-- The chosen code word less the row. -/
theorem pay21_apply (v1 : FVec Ideal S128x256 .f32) (v108 : Vec Ideal S8192x256 .f32) (p : Fin 128) (k : Fin 256) (i : Fin 8192)
    (hi : k0_pay19 cols v76 v80 v87 (ix2 p 0) = BitVec.ofNat 32 i.val) :
    k0_pay21 v1 cols v76 v80 v87 v108 (ix2 p k) = v108 (ix2 i k) - v1 (ix2 p k) := by
  unfold k0_pay21
  rw [subf_apply, dot1_apply]
  refine congrArg (fun z => z - v1 (ix2 p k)) ?_
  rw [← sum_onehot i fun e => v108 (ix2 e k)]
  exact Finset.sum_congr rfl fun e _ => by rw [pay20_apply _ _ _ p e i hi]

/-- THE RESULT ROW of a block: the row plus the chosen code word less the row. -/
theorem pay22_apply (v1 : FVec Ideal S128x256 .f32) (v108 : Vec Ideal S8192x256 .f32) (p : Fin 128) (k : Fin 256) (i : Fin 8192)
    (hi : k0_pay19 cols v76 v80 v87 (ix2 p 0) = BitVec.ofNat 32 i.val) :
    k0_pay22 v1 cols v76 v80 v87 v108 (ix2 p k) = v1 (ix2 p k) + (v108 (ix2 i k) - v1 (ix2 p k)) := by
  unfold k0_pay22
  rw [addf_apply, pay21_apply _ _ _ v1 v108 p k i hi]

/-- THE SQUARED ERROR of a block, added to what was there. -/
theorem pay24_apply (v1 : FVec Ideal S128x256 .f32) (v108 : Vec Ideal S8192x256 .f32) (v116 : Vec Ideal S1x1 .f32)
    (j : S1x1.Idx) :
    k0_pay24 v1 v15 v76 v80 v87 v108 v116 j
      = v116 j + ∑ p : Fin 128, ∑ k : Fin 256,
          k0_pay21 v1 v15 v76 v80 v87 v108 (ix2 p k) * k0_pay21 v1 v15 v76 v80 v87 v108 (ix2 p k) := by
  unfold k0_pay24
  simp only [shapeCast_self]
  rw [addf_apply, broadcast_apply]
  refine congrArg (fun z => v116 j + z) ?_
  unfold extractAt
  rw [show (shapeCast S1x1x1 _ shapeCasts_S1_S1x1x1 : S1x1x1.Idx → EReal) _ = _ from
    shapeCast_apply _ shapeCasts_S1_S1x1x1 _ (ix1 0) rfl]
  refine (Ideal.multiReduction_add_total _ _ _ (fun b => match b with | ⟨0, _⟩ => rfl) _ _ _).trans ?_
  have h := (Shape.reshapeEquiv shapeCasts_S128x256_S1x128x256).sum_comp
    (mulf (k0_pay21 v1 v15 v76 v80 v87 v108) (k0_pay21 v1 v15 v76 v80 v87 v108))
  refine h.trans ?_
  exact sum_idx2 _

/-- The zero the first block's accumulator starts from. -/
theorem pay23_apply (j : S1x1.Idx) : k0_pay23 (F := Ideal) j = 0 := by
  unfold k0_pay23
  exact Ideal.ofBits_zero_f32

end Cert.KernelIdeal.Value
-- ==== Proof.BlockOut.lean ====
/-
  WHAT A BLOCK'S BODY LEAVES in its four output buffers, for the first block and for a later one, as the plain values of
  the body's stores over the block's inputs.
-/
module

public import proofs.«01_k».proof.Proof.BlockRow
public import proofs.«01_k».proof.Proof.Gen.KernelIdeal.Frame

@[expose] public section

noncomputable section

namespace Cert.KernelIdeal.Value

open Cert.KernelIdeal Cert.KernelIdeal.Gen Vq
open Idealize.ShloMosaic Idealize.ShloMosaic.TcCoe Idealize.ShloMosaic.Tactic Idealize.ShloMosaic.ValueIdx
open Idealize.SL Idealize.SL.Sem

/-- The origin of a rank-2 buffer. -/
theorem hz : (![0, 0] : Fin 2 → Nat) = fun _ => 0 := funext fun a => by fin_cases a <;> rfl

section
variable (v0 : Vec Ideal S128x256 .f32) (v2 : Vec Ideal S256x8192 .f32) (w : Vec Ideal S8192x256 .f32) (v5 : Vec Ideal S128x1 .f32) (v7 : Vec Ideal S1x8192 .f32)

/-- The merged index of the first three ranges of code words. -/
abbrev idx3 : IVec S128x1 32 :=
  k0_pay16 (k0_pay2 v0 v2 v5 v7) cols (k0_pay5 v0 v2 v5 v7) (k0_pay6 v0 v2 v5 v7) (k0_pay7 v0 v2 v5 v7)
/-- The merged value of the first three ranges. -/
abbrev min3 : FVec Ideal S128x1 .f32 := k0_pay17 (k0_pay2 v0 v2 v5 v7) cols (k0_pay6 v0 v2 v5 v7) (k0_pay7 v0 v2 v5 v7)
/-- The last range of the distances. -/
abbrev last : FVec Ideal S128x8192 .f32 := k0_pay18 (k0_pay2 v0 v2 v5 v7) cols

/-- The one-hot block stored. -/
abbrev blockEnc : FVec Ideal S128x8192 .f32 := k0_pay20 cols (idx3 v0 v2 v5 v7) (min3 v0 v2 v5 v7) (last v0 v2 v5 v7)
/-- The result block stored. -/
abbrev blockSte : FVec Ideal S128x256 .f32 := k0_pay22 (k0_pay1 v0) cols (idx3 v0 v2 v5 v7) (min3 v0 v2 v5 v7) (last v0 v2 v5 v7) w
/-- The accumulated squared error stored, over what was there. -/
abbrev blockAcc (a : Vec Ideal S1x1 .f32) : FVec Ideal S1x1 .f32 :=
  k0_pay24 (k0_pay1 v0) cols (idx3 v0 v2 v5 v7) (min3 v0 v2 v5 v7) (last v0 v2 v5 v7) w a
end

section
variable (c : Dev nD) (i : grid0.Coords) (arg1 : Memref sig .tc .vmem S128x256 .f32) (harg1 : arg1.IsWhole) (arg2 : Memref sig .tc .vmem S256x8192 .f32) (harg2 : arg2.IsWhole) (arg3 : Memref sig .tc .vmem S8192x256 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S128x8192 .f32) (harg6 : arg6.IsWhole) (arg7 : Memref sig .tc .vmem S128x1 .i32) (harg7 : arg7.IsWhole) (arg8 : Memref sig .tc .vmem S128x256 .f32) (harg8 : arg8.IsWhole) (arg9 : Memref sig .tc .vmem S1x1 .f32) (harg9 : arg9.IsWhole)
    (x0 : Vec Ideal S128x256 .f32) (x1 : Vec Ideal S256x8192 .f32) (x2 : Vec Ideal S8192x256 .f32) (x3 : Vec Ideal S128x1 .f32) (x4 : Vec Ideal S1x8192 .f32)

/-- Output 5 after the first block's body. -/
theorem out0_A_5_eq (hc0 : cond0_0 i) : out0_A_5 (F := Ideal) c i arg1 harg1 arg2 harg2 arg3 harg3 arg4 harg4 arg5 harg5 arg6 harg6 arg7 harg7 arg8 harg8 arg9 harg9 hc0 x0 x1 x2 x3 x4 = blockEnc x0 x1 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S128x256) hz, View.ld_unit_zero (S := S256x8192) hz, View.ld_unit_zero (S := S8192x256) hz, View.ld_unit_zero (S := S128x1) hz, View.ld_unit_zero (S := S1x8192) hz, View.ld_unit_zero (S := S1x1) hz]

/-- Output 6 after the first block's body. -/
theorem out0_A_6_eq (hc0 : cond0_0 i) : out0_A_6 (F := Ideal) c i arg1 harg1 arg2 harg2 arg3 harg3 arg4 harg4 arg5 harg5 arg6 harg6 arg7 harg7 arg8 harg8 arg9 harg9 hc0 x0 x1 x2 x3 x4 = blockIdx x0 x1 x3 x4 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S128x256) hz, View.ld_unit_zero (S := S256x8192) hz, View.ld_unit_zero (S := S8192x256) hz, View.ld_unit_zero (S := S128x1) hz, View.ld_unit_zero (S := S1x8192) hz, View.ld_unit_zero (S := S1x1) hz]

/-- Output 7 after the first block's body. -/
theorem out0_A_7_eq (hc0 : cond0_0 i) : out0_A_7 (F := Ideal) c i arg1 harg1 arg2 harg2 arg3 harg3 arg4 harg4 arg5 harg5 arg6 harg6 arg7 harg7 arg8 harg8 arg9 harg9 hc0 x0 x1 x2 x3 x4 = blockSte x0 x1 x2 x3 x4 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S128x256) hz, View.ld_unit_zero (S := S256x8192) hz, View.ld_unit_zero (S := S8192x256) hz, View.ld_unit_zero (S := S128x1) hz, View.ld_unit_zero (S := S1x8192) hz, View.ld_unit_zero (S := S1x1) hz]

/-- The accumulator after the first block's body. -/
theorem out0_A_8_eq (hc0 : cond0_0 i) : out0_A_8 (F := Ideal) c i arg1 harg1 arg2 harg2 arg3 harg3 arg4 harg4 arg5 harg5 arg6 harg6 arg7 harg7 arg8 harg8 arg9 harg9 hc0 x0 x1 x2 x3 x4 = blockAcc x0 x1 x2 x3 x4 (k0_pay23 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1) hz]
  simp only [View.readAt_eq_ld, harg1.read_unread, harg2.read_unread, harg3.read_unread, harg4.read_unread, harg5.read_unread, View.ld_unit_zero (S := S128x256) hz, View.ld_unit_zero (S := S256x8192) hz, View.ld_unit_zero (S := S8192x256) hz, View.ld_unit_zero (S := S128x1) hz, View.ld_unit_zero (S := S1x8192) hz, View.ld_unit_zero (S := S1x1) hz, View.readCov_unit_zero (S := S1x1) _ hz]

/-- Output 5 after the later block's body. -/
theorem out0_B_5_eq (hc0 : ¬cond0_0 i) (xo8 : Vec Ideal S1x1 .f32) : out0_B_5 (F := Ideal) c i arg1 harg1 arg2 harg2 arg3 harg3 arg4 harg4 arg5 harg5 arg6 harg6 arg7 harg7 arg8 harg8 arg9 harg9 hc0 x0 x1 x2 x3 x4 xo8 = blockEnc x0 x1 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo8)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S128x256) hz, View.ld_unit_zero (S := S256x8192) hz, View.ld_unit_zero (S := S8192x256) hz, View.ld_unit_zero (S := S128x1) hz, View.ld_unit_zero (S := S1x8192) hz, View.ld_unit_zero (S := S1x1) hz]

/-- Output 6 after the later block's body. -/
theorem out0_B_6_eq (hc0 : ¬cond0_0 i) (xo8 : Vec Ideal S1x1 .f32) : out0_B_6 (F := Ideal) c i arg1 harg1 arg2 harg2 arg3 harg3 arg4 harg4 arg5 harg5 arg6 harg6 arg7 harg7 arg8 harg8 arg9 harg9 hc0 x0 x1 x2 x3 x4 xo8 = blockIdx x0 x1 x3 x4 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo8)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S128x256) hz, View.ld_unit_zero (S := S256x8192) hz, View.ld_unit_zero (S := S8192x256) hz, View.ld_unit_zero (S := S128x1) hz, View.ld_unit_zero (S := S1x8192) hz, View.ld_unit_zero (S := S1x1) hz]

/-- Output 7 after the later block's body. -/
theorem out0_B_7_eq (hc0 : ¬cond0_0 i) (xo8 : Vec Ideal S1x1 .f32) : out0_B_7 (F := Ideal) c i arg1 harg1 arg2 harg2 arg3 harg3 arg4 harg4 arg5 harg5 arg6 harg6 arg7 harg7 arg8 harg8 arg9 harg9 hc0 x0 x1 x2 x3 x4 xo8 = blockSte x0 x1 x2 x3 x4 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo8)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S128x256) hz, View.ld_unit_zero (S := S256x8192) hz, View.ld_unit_zero (S := S8192x256) hz, View.ld_unit_zero (S := S128x1) hz, View.ld_unit_zero (S := S1x8192) hz, View.ld_unit_zero (S := S1x1) hz]

/-- The accumulator after a later block's body. -/
theorem out0_B_8_eq (hc0 : ¬cond0_0 i) (xo8 : Vec Ideal S1x1 .f32) : out0_B_8 (F := Ideal) c i arg1 harg1 arg2 harg2 arg3 harg3 arg4 harg4 arg5 harg5 arg6 harg6 arg7 harg7 arg8 harg8 arg9 harg9 hc0 x0 x1 x2 x3 x4 xo8 = blockAcc x0 x1 x2 x3 x4 xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 xo8)]
  unfold kernelRun0_B
  dsimp only
  sl_unfold_words
  rw [View.canon_unit_zero hz]
  simp only [View.readAt_eq_ld, harg1.read_unread, harg2.read_unread, harg3.read_unread, harg4.read_unread, harg5.read_unread, harg9.read_unread, View.ld_unit_zero (S := S128x256) hz, View.ld_unit_zero (S := S256x8192) hz, View.ld_unit_zero (S := S8192x256) hz, View.ld_unit_zero (S := S128x1) hz, View.ld_unit_zero (S := S1x8192) hz, View.ld_unit_zero (S := S1x1) hz]

end

end Cert.KernelIdeal.Value
-- ==== Proof.Blocks.lean ====
/-
  THE BLOCKS the first region reads and what its body leaves of them: block `t` is rows `128 t` to `128 t + 127`, so the
  body's values at a row of a block are the plain expressions at that row of the arrays.
-/
module

public import proofs.«01_k».proof.Proof.Spec
public import proofs.«01_k».proof.Proof.BlockOut

@[expose] public section

noncomputable section

namespace Cert.KernelIdeal.Value

open Cert.KernelIdeal Cert.KernelIdeal.Gen Vq
open Idealize.ShloMosaic Idealize.ShloMosaic.TcCoe Idealize.ShloMosaic.Tactic Idealize.ShloMosaic.ValueIdx
open Idealize.SL Idealize.SL.Sem
open scoped BigOperators

variable (V : (c : Dev nD) → (b : Ref sig .tc) → Buf (Elt Ideal) ((c : Thread nD τ).loc b)) (c : Dev nD)
variable (X : Fin 9216 → Fin 256 → EReal) (W : Fin 8192 → Fin 256 → EReal)

/-- What the first region finds in its five input arrays: the rows, the code book transposed and as it is, the rows' and
    the code words' sums of squares. -/
structure Inputs : Prop where
  x : ∀ r k, (V c main_v0 : S9216x256.Idx → EReal) (ix2 r k) = X r k
  wt : ∀ k e, (V c main_v6 : S256x8192.Idx → EReal) (ix2 k e) = W e k
  w : ∀ e k, (V c main_arg1 : S8192x256.Idx → EReal) (ix2 e k) = W e k
  x2 : ∀ r, (V c main_v3 : S9216x1.Idx → EReal) (ix2 r 0) = sumSq (X r)
  w2 : ∀ e, (V c main_v7 : S1x8192.Idx → EReal) (ix2 0 e) = sumSq (W e)

/-- A point of the grid as a block number. -/
def pt (t : Fin cfg0.N) : Fin 72 := ⟨t.val, lt_of_lt_of_eq t.isLt N_0⟩

theorem index0 (t : Fin cfg0.N) : win0_0.index t 0 = t.val ∧ win0_0.index t 1 = 0 := by
  revert t; decide +kernel
theorem index1 (t : Fin cfg0.N) : win0_1.index t 0 = 0 ∧ win0_1.index t 1 = 0 := by
  revert t; decide +kernel
theorem index2 (t : Fin cfg0.N) : win0_2.index t 0 = 0 ∧ win0_2.index t 1 = 0 := by
  revert t; decide +kernel
theorem index3 (t : Fin cfg0.N) : win0_3.index t 0 = t.val ∧ win0_3.index t 1 = 0 := by
  revert t; decide +kernel
theorem index4 (t : Fin cfg0.N) : win0_4.index t 0 = 0 ∧ win0_4.index t 1 = 0 := by
  revert t; decide +kernel
theorem index5 (t : Fin cfg0.N) : win0_5.index t 0 = t.val ∧ win0_5.index t 1 = 0 := by
  revert t; decide +kernel
theorem index6 (t : Fin cfg0.N) : win0_6.index t 0 = t.val ∧ win0_6.index t 1 = 0 := by
  revert t; decide +kernel
theorem index7 (t : Fin cfg0.N) : win0_7.index t 0 = t.val ∧ win0_7.index t 1 = 0 := by
  revert t; decide +kernel
theorem index8 (t : Fin cfg0.N) : win0_8.index t 0 = 0 ∧ win0_8.index t 1 = 0 := by
  revert t; decide +kernel

/-- A block of the rows, at an index. -/
theorem iblk0_0 (t : Fin cfg0.N) (p : Fin 128) (k : Fin 256) :
    (iblk0 V c 0 t : S128x256.Idx → EReal) (ix2 p k) = (V c main_v0 : S9216x256.Idx → EReal) (ix2 (row (pt t) p) k) := by
  unfold iblk0
  rw [View.read_apply]
  show V c main_v0 _ = V c main_v0 _
  congr 1
  funext a
  apply Fin.ext
  match a with
  | ⟨0, _⟩ => show win0_0.index t 0 * 128 + 1 * p.val = t.val * 128 + p.val; rw [(index0 t).1]; omega
  | ⟨1, _⟩ => show win0_0.index t 1 * 256 + 1 * k.val = k.val; rw [(index0 t).2]; omega

/-- The transposed code book, whole. -/
theorem iblk0_1 (t : Fin cfg0.N) (k : Fin 256) (e : Fin 8192) :
    (iblk0 V c 1 t : S256x8192.Idx → EReal) (ix2 k e) = (V c main_v6 : S256x8192.Idx → EReal) (ix2 k e) := by
  unfold iblk0
  rw [View.read_apply]
  show V c main_v6 _ = V c main_v6 _
  congr 1
  funext a
  apply Fin.ext
  match a with
  | ⟨0, _⟩ => show win0_1.index t 0 * 256 + 1 * k.val = k.val; rw [(index1 t).1]; omega
  | ⟨1, _⟩ => show win0_1.index t 1 * 8192 + 1 * e.val = e.val; rw [(index1 t).2]; omega

/-- The code book, whole. -/
theorem iblk0_2 (t : Fin cfg0.N) (e : Fin 8192) (k : Fin 256) :
    (iblk0 V c 2 t : S8192x256.Idx → EReal) (ix2 e k) = (V c main_arg1 : S8192x256.Idx → EReal) (ix2 e k) := by
  unfold iblk0
  rw [View.read_apply]
  show V c main_arg1 _ = V c main_arg1 _
  congr 1
  funext a
  apply Fin.ext
  match a with
  | ⟨0, _⟩ => show win0_2.index t 0 * 8192 + 1 * e.val = e.val; rw [(index2 t).1]; omega
  | ⟨1, _⟩ => show win0_2.index t 1 * 256 + 1 * k.val = k.val; rw [(index2 t).2]; omega

/-- A block of the rows' sums of squares, at an index. -/
theorem iblk0_3 (t : Fin cfg0.N) (p : Fin 128) :
    (iblk0 V c 3 t : S128x1.Idx → EReal) (ix2 p 0) = (V c main_v3 : S9216x1.Idx → EReal) (ix2 (row (pt t) p) 0) := by
  unfold iblk0
  rw [View.read_apply]
  show V c main_v3 _ = V c main_v3 _
  congr 1
  funext a
  apply Fin.ext
  match a with
  | ⟨0, _⟩ => show win0_3.index t 0 * 128 + 1 * p.val = t.val * 128 + p.val; rw [(index3 t).1]; omega
  | ⟨1, _⟩ => show win0_3.index t 1 * 1 + 1 * 0 = 0; rw [(index3 t).2]

/-- The code words' sums of squares, whole. -/
theorem iblk0_4 (t : Fin cfg0.N) (e : Fin 8192) :
    (iblk0 V c 4 t : S1x8192.Idx → EReal) (ix2 0 e) = (V c main_v7 : S1x8192.Idx → EReal) (ix2 0 e) := by
  unfold iblk0
  rw [View.read_apply]
  show V c main_v7 _ = V c main_v7 _
  congr 1
  funext a
  apply Fin.ext
  match a with
  | ⟨0, _⟩ => show win0_4.index t 0 * 1 + 1 * 0 = 0; rw [(index4 t).1]
  | ⟨1, _⟩ => show win0_4.index t 1 * 8192 + 1 * e.val = e.val; rw [(index4 t).2]; omega

variable {V c X W} (hin : Inputs V c X W)
include hin

/-- The distances a block computes are the rows' distances. -/
theorem pay2_dist (t : Fin cfg0.N) (p : Fin 128) (e : Fin 8192) :
    k0_pay2 (iblk0 V c 0 t) (iblk0 V c 1 t) (iblk0 V c 3 t) (iblk0 V c 4 t) (ix2 p e) = distance X W (row (pt t) p) e := by
  rw [pay2_apply, iblk0_3 V c, iblk0_4 V c, hin.x2, hin.w2]
  unfold distance
  congr 2
  exact Finset.sum_congr rfl fun k _ => by rw [iblk0_0 V c, iblk0_1 V c, hin.x, hin.wt]

/-- The index a block stores for a row is that of the row's chosen code word. -/
theorem blockIdx_code (t : Fin cfg0.N) (p : Fin 128) :
    blockIdx (iblk0 V c 0 t) (iblk0 V c 1 t) (iblk0 V c 3 t) (iblk0 V c 4 t) (ix2 p 0)
      = BitVec.ofNat 32 (code X W (row (pt t) p)).val := by
  refine blockIdx_apply _ _ _ _ p _ ?_
  rw [show (fun e => k0_pay2 (iblk0 V c 0 t) (iblk0 V c 1 t) (iblk0 V c 3 t) (iblk0 V c 4 t) (ix2 p e)) = distance X W (row (pt t) p)
    from funext fun e => pay2_dist hin t p e]
  exact code_spec X W _

/-- The one-hot row a block stores. -/
theorem blockEnc_code (t : Fin cfg0.N) (p : Fin 128) (e : Fin 8192) :
    blockEnc (iblk0 V c 0 t) (iblk0 V c 1 t) (iblk0 V c 3 t) (iblk0 V c 4 t) (ix2 p e)
      = if e = code X W (row (pt t) p) then 1 else 0 :=
  pay20_apply _ _ _ p e _ (blockIdx_code hin t p)

/-- The chosen code word less the row, in a block. -/
theorem pay21_err (t : Fin cfg0.N) (p : Fin 128) (k : Fin 256) :
    k0_pay21 (k0_pay1 (iblk0 V c 0 t)) cols (idx3 (iblk0 V c 0 t) (iblk0 V c 1 t) (iblk0 V c 3 t) (iblk0 V c 4 t))
      (min3 (iblk0 V c 0 t) (iblk0 V c 1 t) (iblk0 V c 3 t) (iblk0 V c 4 t))
      (last (iblk0 V c 0 t) (iblk0 V c 1 t) (iblk0 V c 3 t) (iblk0 V c 4 t)) (iblk0 V c 2 t) (ix2 p k)
      = err X W (row (pt t) p) k := by
  rw [pay21_apply _ _ _ _ _ p k _ (blockIdx_code hin t p)]
  unfold k0_pay1
  rw [shapeCast_self]
  unfold err
  rw [iblk0_2 V c, iblk0_0 V c, hin.w, hin.x]

/-- The result row a block stores. -/
theorem blockSte_row (t : Fin cfg0.N) (p : Fin 128) (k : Fin 256) :
    blockSte (iblk0 V c 0 t) (iblk0 V c 1 t) (iblk0 V c 2 t) (iblk0 V c 3 t) (iblk0 V c 4 t) (ix2 p k)
      = X (row (pt t) p) k + err X W (row (pt t) p) k := by
  unfold blockSte k0_pay22
  rw [addf_apply, pay21_err hin t p k]
  unfold k0_pay1
  rw [shapeCast_self, iblk0_0 V c, hin.x]

/-- The accumulator a block stores: what was there plus the block's squared error. -/
theorem blockAcc_total (t : Fin cfg0.N) (a : Vec Ideal S1x1 .f32) (j : S1x1.Idx) :
    blockAcc (iblk0 V c 0 t) (iblk0 V c 1 t) (iblk0 V c 2 t) (iblk0 V c 3 t) (iblk0 V c 4 t) a j
      = a j + ∑ p : Fin 128, ∑ k : Fin 256, err X W (row (pt t) p) k * err X W (row (pt t) p) k := by
  refine (pay24_apply _ _ _ _ _ _ a j).trans ?_
  refine congrArg (fun z => a j + z) ?_
  exact Finset.sum_congr rfl fun p _ => Finset.sum_congr rfl fun k _ => by rw [pay21_err hin t p k]

end Cert.KernelIdeal.Value
-- ==== Proof.Array.lean ====
/-
  THE FIRST REGION'S OUTPUT ARRAYS: every block is written back and the blocks tile the arrays, so each array ends at its
  closed form over the rows; the accumulator, written back after the last block, ends at the total squared error.
-/
module

public import proofs.«01_k».proof.Proof.Blocks

@[expose] public section

noncomputable section

namespace Cert.KernelIdeal.Value

open Cert.KernelIdeal Cert.KernelIdeal.Gen Vq
open Idealize.ShloMosaic Idealize.ShloMosaic.TcCoe Idealize.ShloMosaic.Tactic Idealize.ShloMosaic.ValueIdx
open Idealize.SL Idealize.SL.Sem
open scoped BigOperators

section
variable (V : (c : Dev nD) → (b : Ref sig .tc) → Buf (Elt Ideal) ((c : Thread nD τ).loc b)) (c : Dev nD)

/-- The one-hot block left after any point. -/
theorem enc_at (t : Fin cfg0.N) : (outsAt0 V c t.val t.isLt).1 = blockEnc (iblk0 V c 0 t) (iblk0 V c 1 t) (iblk0 V c 3 t) (iblk0 V c 4 t) := by
  by_cases h0 : t.val % 72 = 0
  · rw [outsAt0_A V c t h0]
    dsimp only
    exact out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) ((hcond0_0 t).mpr h0)
  · rw [outsAt0_B V c t h0]
    dsimp only
    exact out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (fun h => h0 ((hcond0_0 t).mp h)) (outsAt0 V c (t.val - 1) (Nat.lt_of_le_of_lt (Nat.sub_le _ _) t.isLt)).2.2.2

/-- The index block left after any point. -/
theorem idx_at (t : Fin cfg0.N) : (outsAt0 V c t.val t.isLt).2.1 = blockIdx (iblk0 V c 0 t) (iblk0 V c 1 t) (iblk0 V c 3 t) (iblk0 V c 4 t) := by
  by_cases h0 : t.val % 72 = 0
  · rw [outsAt0_A V c t h0]
    dsimp only
    exact out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) ((hcond0_0 t).mpr h0)
  · rw [outsAt0_B V c t h0]
    dsimp only
    exact out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (fun h => h0 ((hcond0_0 t).mp h)) (outsAt0 V c (t.val - 1) (Nat.lt_of_le_of_lt (Nat.sub_le _ _) t.isLt)).2.2.2

/-- The result block left after any point. -/
theorem ste_at (t : Fin cfg0.N) : (outsAt0 V c t.val t.isLt).2.2.1 = blockSte (iblk0 V c 0 t) (iblk0 V c 1 t) (iblk0 V c 2 t) (iblk0 V c 3 t) (iblk0 V c 4 t) := by
  by_cases h0 : t.val % 72 = 0
  · rw [outsAt0_A V c t h0]
    dsimp only
    exact out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) ((hcond0_0 t).mpr h0)
  · rw [outsAt0_B V c t h0]
    dsimp only
    exact out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (fun h => h0 ((hcond0_0 t).mp h)) (outsAt0 V c (t.val - 1) (Nat.lt_of_le_of_lt (Nat.sub_le _ _) t.isLt)).2.2.2

/-- The accumulator left after the first point. -/
theorem acc_first (t : Fin cfg0.N) (h0 : t.val % 72 = 0) :
    (outsAt0 V c t.val t.isLt).2.2.2 = blockAcc (iblk0 V c 0 t) (iblk0 V c 1 t) (iblk0 V c 2 t) (iblk0 V c 3 t) (iblk0 V c 4 t) (k0_pay23 (F := Ideal)) := by
  rw [outsAt0_A V c t h0]
  dsimp only
  exact out0_A_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) ((hcond0_0 t).mpr h0)

/-- The accumulator left after a later point. -/
theorem acc_next (t : Fin cfg0.N) (h0 : ¬t.val % 72 = 0) :
    (outsAt0 V c t.val t.isLt).2.2.2
      = blockAcc (iblk0 V c 0 t) (iblk0 V c 1 t) (iblk0 V c 2 t) (iblk0 V c 3 t) (iblk0 V c 4 t) (outsAt0 V c (t.val - 1) (Nat.lt_of_le_of_lt (Nat.sub_le _ _) t.isLt)).2.2.2 := by
  rw [outsAt0_B V c t h0]
  dsimp only
  exact out0_B_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (fun h => h0 ((hcond0_0 t).mp h)) (outsAt0 V c (t.val - 1) (Nat.lt_of_le_of_lt (Nat.sub_le _ _) t.isLt)).2.2.2
end

variable (X : Fin 9216 → Fin 256 → EReal) (W : Fin 8192 → Fin 256 → EReal)

/-- The one-hot row of row `r`'s chosen code word, at entry `e`. -/
def encAt (r : Fin 9216) (e : Fin 8192) : EReal := if e = code X W r then 1 else 0
/-- The one-hot rows of the chosen code words. -/
def encArr : FVec Ideal S9216x8192 .f32 := fun i => encAt X W (i 0) (i 1)
/-- The chosen code words' indices, one column. -/
def idxArr : IVec S9216x1 32 := fun i => BitVec.ofNat 32 (code X W (i 0)).val
/-- The rows plus their errors. -/
def steArr : FVec Ideal S9216x256 .f32 := fun i => X (i 0) (i 1) + err X W (i 0) (i 1)
/-- The total squared error, one element. -/
def accArr : FVec Ideal S1x1 .f32 := fun _ => total X W

/-- The point whose block holds row `r`. -/
def ptOf (r : Fin 9216) : Fin cfg0.N := ⟨r.val / 128, by have hN : cfg0.N = 72 := N_0; have h := r.isLt; omega⟩

/-- The last point. -/
def lastPt : Fin cfg0.N := ⟨71, by rw [show cfg0.N = 72 from N_0]; decide⟩

/-- The squared error of block `t`. -/
def blockErr (t : Fin 72) : EReal := ∑ p : Fin 128, ∑ k : Fin 256, err X W (row t p) k * err X W (row t p) k

variable {V : (c : Dev nD) → (b : Ref sig .tc) → Buf (Elt Ideal) ((c : Thread nD τ).loc b)} {c : Dev nD}
variable {X W} (hin : Inputs V c X W)
include hin

/-- The accumulator after point `n`: the squared errors of the blocks so far. -/
theorem acc_at : ∀ (n : ℕ) (h : n < cfg0.N) (j : S1x1.Idx),
    ((outsAt0 V c n h).2.2.2 : S1x1.Idx → EReal) j
      = ∑ t : Fin (n + 1), blockErr X W ⟨t.val, by have hN : cfg0.N = 72 := N_0; omega⟩
  | 0, h, j => by
    rw [acc_first V c ⟨0, h⟩ rfl, blockAcc_total hin ⟨0, h⟩, pay23_apply, zero_add, Fin.sum_univ_one]
    rfl
  | n + 1, h, j => by
    have hN : cfg0.N = 72 := N_0
    have hB : ¬(⟨n + 1, h⟩ : Fin cfg0.N).val % 72 = 0 := by show ¬(n + 1) % 72 = 0; omega
    rw [acc_next V c ⟨n + 1, h⟩ hB, blockAcc_total hin ⟨n + 1, h⟩, Fin.sum_univ_castSucc (n := n + 1)]
    have ih := acc_at n (by omega) j
    refine congrArg₂ (fun y z : EReal => y + z) ih rfl

/-- The accumulator after the last point is the total squared error. -/
theorem acc_last (n : ℕ) (h : n < cfg0.N) (hn : n = 71) (j : S1x1.Idx) :
    ((outsAt0 V c n h).2.2.2 : S1x1.Idx → EReal) j = total X W := by
  rw [acc_at hin n h j]
  subst hn
  unfold total
  rw [sum_rows]
  rfl

/-- Block `t` of the one-hot array is what the body left of it. -/
theorem enc_flushed (t : Fin cfg0.N) :
    (dat0 V c).flushed 5 t = ((cfg0.win 5).blk t).view.read (Elt Ideal) (encArr X W) := by
  show (cfg0.win 5).cut (grid0.coords t) ((dat0 V c).after 5 t) = _
  rw [after0_5, enc_at]
  funext j
  have key : ∀ q : S128x8192.Idx, (blockEnc (iblk0 V c 0 t) (iblk0 V c 1 t) (iblk0 V c 3 t) (iblk0 V c 4 t)) q = encAt X W (row (pt t) (q 0)) (q 1) := fun q => by
    rw [eq_ix2 (n0 := 128) (n1 := 8192) q]
    exact blockEnc_code hin t (q 0) (q 1)
  have hr : row (pt t) (j 0) = ((cfg0.win 5).blk t).view.emb j 0 := by
    apply Fin.ext
    show t.val * 128 + (j 0).val = win0_5.index t 0 * 128 + 1 * (j 0).val
    rw [(index5 t).1]; omega
  have hk : (j 1 : Fin 8192) = ((cfg0.win 5).blk t).view.emb j 1 := by
    apply Fin.ext
    show (j 1).val = win0_5.index t 1 * 8192 + 1 * (j 1).val
    rw [(index5 t).2]; omega
  refine (key j).trans ?_
  show encAt X W _ _ = encAt X W _ _
  rw [hr, hk]

/-- The one-hot array after the region. -/
theorem enc_final : (dat0 V c).arrAt 5 cfg0.N = encArr X W :=
  (dat0 V c).arrAt_eq_of_cover 5 (encArr X W) (fun t _ => enc_flushed hin t) fun i =>
    ⟨ptOf (i 0), flush0_5 _, by
      show i ∈ ((View.whole main_v8_0).slice (win0_5.rect (ptOf (i 0)))).set
      rw [View.set_slice_whole, Rect.mem_set_unit]
      intro a
      have h1 : (i 1).val < 8192 := (i 1).isLt
      match a with
      | ⟨0, _⟩ =>
        show win0_5.index (ptOf (i 0)) 0 * 128 ≤ (i 0).val ∧ (i 0).val < win0_5.index (ptOf (i 0)) 0 * 128 + 128
        rw [(index5 _).1]
        show (i 0).val / 128 * 128 ≤ (i 0).val ∧ (i 0).val < (i 0).val / 128 * 128 + 128
        omega
      | ⟨1, _⟩ =>
        show win0_5.index (ptOf (i 0)) 1 * 8192 ≤ (i 1).val ∧ (i 1).val < win0_5.index (ptOf (i 0)) 1 * 8192 + 8192
        rw [(index5 _).2]
        omega⟩

/-- Block `t` of the index array is what the body left of it. -/
theorem idx_flushed (t : Fin cfg0.N) :
    (dat0 V c).flushed 6 t = ((cfg0.win 6).blk t).view.read (Elt Ideal) (idxArr X W) := by
  show (cfg0.win 6).cut (grid0.coords t) ((dat0 V c).after 6 t) = _
  rw [after0_6, idx_at]
  funext j
  have key : ∀ q : S128x1.Idx, (blockIdx (iblk0 V c 0 t) (iblk0 V c 1 t) (iblk0 V c 3 t) (iblk0 V c 4 t)) q = BitVec.ofNat 32 (code X W (row (pt t) (q 0))).val := fun q => by
    have e0 : q = ix2 (q 0) (0 : Fin 1) := by
      rw [eq_ix2 (n0 := 128) (n1 := 1) q]
      exact congrArg (ix2 (n0 := 128) (n1 := 1) (q 0)) (Subsingleton.elim (α := Fin 1) _ _)
    rw [e0]
    exact blockIdx_code hin t (q 0)
  have hr : row (pt t) (j 0) = ((cfg0.win 6).blk t).view.emb j 0 := by
    apply Fin.ext
    show t.val * 128 + (j 0).val = win0_6.index t 0 * 128 + 1 * (j 0).val
    rw [(index6 t).1]; omega
  refine (key j).trans ?_
  show BitVec.ofNat 32 (code X W _).val = BitVec.ofNat 32 (code X W _).val
  rw [hr]

/-- The index array after the region. -/
theorem idx_final : (dat0 V c).arrAt 6 cfg0.N = idxArr X W :=
  (dat0 V c).arrAt_eq_of_cover 6 (idxArr X W) (fun t _ => idx_flushed hin t) fun i =>
    ⟨ptOf (i 0), flush0_6 _, by
      show i ∈ ((View.whole main_v8_1).slice (win0_6.rect (ptOf (i 0)))).set
      rw [View.set_slice_whole, Rect.mem_set_unit]
      intro a
      have h1 : (i 1).val < 1 := (i 1).isLt
      match a with
      | ⟨0, _⟩ =>
        show win0_6.index (ptOf (i 0)) 0 * 128 ≤ (i 0).val ∧ (i 0).val < win0_6.index (ptOf (i 0)) 0 * 128 + 128
        rw [(index6 _).1]
        show (i 0).val / 128 * 128 ≤ (i 0).val ∧ (i 0).val < (i 0).val / 128 * 128 + 128
        omega
      | ⟨1, _⟩ =>
        show win0_6.index (ptOf (i 0)) 1 * 1 ≤ (i 1).val ∧ (i 1).val < win0_6.index (ptOf (i 0)) 1 * 1 + 1
        rw [(index6 _).2]
        omega⟩

/-- Block `t` of the result array is what the body left of it. -/
theorem ste_flushed (t : Fin cfg0.N) :
    (dat0 V c).flushed 7 t = ((cfg0.win 7).blk t).view.read (Elt Ideal) (steArr X W) := by
  show (cfg0.win 7).cut (grid0.coords t) ((dat0 V c).after 7 t) = _
  rw [after0_7, ste_at]
  funext j
  have key : ∀ q : S128x256.Idx, (blockSte (iblk0 V c 0 t) (iblk0 V c 1 t) (iblk0 V c 2 t) (iblk0 V c 3 t) (iblk0 V c 4 t)) q = X (row (pt t) (q 0)) (q 1) + err X W (row (pt t) (q 0)) (q 1) := fun q => by
    rw [eq_ix2 (n0 := 128) (n1 := 256) q]
    exact blockSte_row hin t (q 0) (q 1)
  have hr : row (pt t) (j 0) = ((cfg0.win 7).blk t).view.emb j 0 := by
    apply Fin.ext
    show t.val * 128 + (j 0).val = win0_7.index t 0 * 128 + 1 * (j 0).val
    rw [(index7 t).1]; omega
  have hk : (j 1 : Fin 256) = ((cfg0.win 7).blk t).view.emb j 1 := by
    apply Fin.ext
    show (j 1).val = win0_7.index t 1 * 256 + 1 * (j 1).val
    rw [(index7 t).2]; omega
  refine (key j).trans ?_
  show X _ _ + err X W _ _ = X _ _ + err X W _ _
  rw [hr, hk]

/-- The result array after the region. -/
theorem ste_final : (dat0 V c).arrAt 7 cfg0.N = steArr X W :=
  (dat0 V c).arrAt_eq_of_cover 7 (steArr X W) (fun t _ => ste_flushed hin t) fun i =>
    ⟨ptOf (i 0), flush0_7 _, by
      show i ∈ ((View.whole main_v8_2).slice (win0_7.rect (ptOf (i 0)))).set
      rw [View.set_slice_whole, Rect.mem_set_unit]
      intro a
      have h1 : (i 1).val < 256 := (i 1).isLt
      match a with
      | ⟨0, _⟩ =>
        show win0_7.index (ptOf (i 0)) 0 * 128 ≤ (i 0).val ∧ (i 0).val < win0_7.index (ptOf (i 0)) 0 * 128 + 128
        rw [(index7 _).1]
        show (i 0).val / 128 * 128 ≤ (i 0).val ∧ (i 0).val < (i 0).val / 128 * 128 + 128
        omega
      | ⟨1, _⟩ =>
        show win0_7.index (ptOf (i 0)) 1 * 256 ≤ (i 1).val ∧ (i 1).val < win0_7.index (ptOf (i 0)) 1 * 256 + 256
        rw [(index7 _).2]
        omega⟩

/-- The accumulator's one write-back writes the total squared error. -/
theorem acc_flushed (t : Fin cfg0.N) (hf : (cfg0.win 8).flush t = true) :
    (dat0 V c).flushed 8 t = ((cfg0.win 8).blk t).view.read (Elt Ideal) (accArr X W) := by
  have hN : cfg0.N = 72 := N_0
  have h71 : t.val = 71 := by have := (flush0_8 t).mp hf; have := t.isLt; omega
  show (cfg0.win 8).cut (grid0.coords t) ((dat0 V c).after 8 t) = _
  rw [after0_8]
  funext j
  have key := acc_last hin t.val t.isLt h71
  rw [View.read_apply]
  generalize (outsAt0 V c t.val t.isLt).2.2.2 = z at key ⊢
  unfold accArr
  generalize total X W = y at key ⊢
  exact key _

/-- The accumulator's array after the region. -/
theorem acc_final : (dat0 V c).arrAt 8 cfg0.N = accArr X W :=
  (dat0 V c).arrAt_eq_of_cover 8 (accArr X W) (acc_flushed hin) fun i =>
    ⟨lastPt, (flush0_8 _).mpr rfl, by
      show i ∈ ((View.whole main_v8_3).slice (win0_8.rect lastPt)).set
      rw [View.set_slice_whole, Rect.mem_set_unit]
      intro a
      have h0 : (i 0).val < 1 := (i 0).isLt
      have h1 : (i 1).val < 1 := (i 1).isLt
      match a with
      | ⟨0, _⟩ =>
        show win0_8.index lastPt 0 * 1 ≤ (i 0).val ∧ (i 0).val < win0_8.index lastPt 0 * 1 + 1
        rw [(index8 _).1]
        omega
      | ⟨1, _⟩ =>
        show win0_8.index lastPt 1 * 1 ≤ (i 1).val ∧ (i 1).val < win0_8.index lastPt 1 * 1 + 1
        rw [(index8 _).2]
        omega⟩

end Cert.KernelIdeal.Value
-- ==== Proof.Inputs.lean ====
/-
  WHAT THE FIRST REGION FINDS: the host's operations before it leave, in the region's five input arrays, the rows, the
  code book both ways up, and the sums of squares of both.
-/
module

public import proofs.«01_k».proof.Proof.Array
public import Idealize.ShloMosaic.Lib.IdealHost
public import Idealize.ShloMosaic.Lib.StableHlo.Run

@[expose] public section

noncomputable section

namespace Cert.KernelIdeal.Value

open Cert.KernelIdeal Cert.KernelIdeal.Gen Vq
open Idealize.ShloMosaic Idealize.ShloMosaic.TcCoe Idealize.ShloMosaic.Tactic Idealize.ShloMosaic.ValueIdx
open Idealize.ShloMosaic.StableHlo
open Idealize.SL Idealize.SL.Sem
open scoped BigOperators

/-- The first argument as 9216 rows of 256. -/
def rowsOf (x : FVec Ideal S16x147456 .f32) (r : Fin 9216) (k : Fin 256) : EReal :=
  (shapeCast S9216x256 x shapeCasts_S16x147456_S9216x256 : FVec Ideal S9216x256 .f32) (ix2 r k)

/-- The second argument as 8192 code words of 256. -/
def bookOf (w : FVec Ideal S8192x256 .f32) (e : Fin 8192) (k : Fin 256) : EReal := w (ix2 e k)

/-- The host's sum over the second axis of 9216 rows, at a row. -/
theorem rowSum_apply (a : FVec Ideal S9216x256 .f32) (r : Fin 9216) :
    Host.reduceAdd a (constant S_ .f32 0x00000000#32) reducesTo_S9216x256_S9216_d1 h_S_ (ix1 r) = ∑ k : Fin 256, a (ix2 r k) := by
  refine (Ideal.hostReduceAdd_single reducesTo_S9216x256_S9216_d1 (by decide) a _ (ix1 r)).trans ?_
  show Ideal.ofBits .f32 0x00000000#32 + _ = _
  rw [Ideal.ofBits_zero_f32, zero_add]
  refine Finset.sum_congr rfl fun k _ => ?_
  refine congrArg a (funext fun b => Fin.ext ?_)
  match b with
  | ⟨0, _⟩ => rfl
  | ⟨1, _⟩ => rfl

/-- The host's sum over the second axis of the code book, at a code word. -/
theorem bookSum_apply (a : FVec Ideal S8192x256 .f32) (e : Fin 8192) :
    Host.reduceAdd a (constant S_ .f32 0x00000000#32) reducesTo_S8192x256_S8192_d1 h_S_ (ix1 e) = ∑ k : Fin 256, a (ix2 e k) := by
  refine (Ideal.hostReduceAdd_single reducesTo_S8192x256_S8192_d1 (by decide) a _ (ix1 e)).trans ?_
  show Ideal.ofBits .f32 0x00000000#32 + _ = _
  rw [Ideal.ofBits_zero_f32, zero_add]
  refine Finset.sum_congr rfl fun k _ => ?_
  refine congrArg a (funext fun b => Fin.ext ?_)
  match b with
  | ⟨0, _⟩ => rfl
  | ⟨1, _⟩ => rfl

section
variable (V : Valuation τ sig (Elt Ideal))

theorem ops0_v0 : after hostOps0 V (Proc.devRef .tc main_v0)
    = shapeCast S9216x256 (V (Proc.devRef .tc main_arg0)) shapeCasts_S16x147456_S9216x256 := by after_results_simp; rfl
theorem ops0_arg1 : after hostOps0 V (Proc.devRef .tc main_arg1) = V (Proc.devRef .tc main_arg1) := by after_results_simp
theorem ops0_v6 : after hostOps0 V (Proc.devRef .tc main_v6)
    = transpose S256x8192 [1, 0] (V (Proc.devRef .tc main_arg1)) transposes_S8192x256_S256x8192_1_0 := by after_results_simp
theorem ops0_v3 : after hostOps0 V (Proc.devRef .tc main_v3)
    = broadcastInDim S9216x1 ![0] bcast_S9216_S9216x1_0 (Host.reduceAdd
        (mulf (shapeCast S9216x256 (V (Proc.devRef .tc main_arg0)) shapeCasts_S16x147456_S9216x256 : FVec Ideal S9216x256 .f32)
          (shapeCast S9216x256 (V (Proc.devRef .tc main_arg0)) shapeCasts_S16x147456_S9216x256))
        (constant S_ .f32 0x00000000#32) reducesTo_S9216x256_S9216_d1 h_S_) := by after_results_simp; rfl
theorem ops0_v7 : after hostOps0 V (Proc.devRef .tc main_v7)
    = shapeCast S1x8192 (Host.reduceAdd (F := Ideal) (mulf (V (Proc.devRef .tc main_arg1) : FVec Ideal S8192x256 .f32) (V (Proc.devRef .tc main_arg1)))
        (constant S_ .f32 0x00000000#32) reducesTo_S8192x256_S8192_d1 h_S_) shapeCasts_S8192_S1x8192 := by after_results_simp; rfl
end

variable (m : (ℓ : Loc nD τ sig) → Buf (Elt Ideal) ℓ) (ρ : Dev nD → PrngReg) (c : Dev nD)

/-- The first argument's launch contents. -/
abbrev Xin : FVec Ideal S16x147456 .f32 := m ((c : Thread nD τ).loc main_arg0)
/-- The second argument's launch contents. -/
abbrev Win : FVec Ideal S8192x256 .f32 := m ((c : Thread nD τ).loc main_arg1)

/-- The first region's input arrays, from the arguments. -/
theorem inputs : Inputs (V1 m ρ) c (rowsOf (Xin m c)) (bookOf (Win m c)) where
  x r k := congrFun (ops0_v0 (W0 m ρ c)) (ix2 r k)
  w e k := congrFun (ops0_arg1 (W0 m ρ c)) (ix2 e k)
  wt k e := (congrFun (ops0_v6 (W0 m ρ c)) (ix2 k e)).trans
    (transpose_apply [1, 0] _ transposes_S8192x256_S256x8192_1_0 (ix2 k e) (ix2 e k) fun a => match a with
      | ⟨0, _⟩ => rfl
      | ⟨1, _⟩ => rfl)
  x2 r := by
    refine (congrFun (ops0_v3 (W0 m ρ c)) (ix2 r 0)).trans ?_
    refine (broadcastInDim_apply ![0] bcast_S9216_S9216x1_0 _ (ix2 r 0) (ix1 r) fun a => match a with
      | ⟨0, _⟩ => rfl).trans ?_
    exact rowSum_apply _ r
  w2 e := by
    refine (congrFun (ops0_v7 (W0 m ρ c)) (ix2 0 e)).trans ?_
    refine (shapeCast_apply _ shapeCasts_S8192_S1x8192 (ix2 0 e) (ix1 e) ?_).trans ?_
    · rw [Shape.rowMajor_val_one, Shape.rowMajor_val_two]; show e.val = 0 * 8192 + e.val; omega
    · exact bookSum_apply _ e

end Cert.KernelIdeal.Value
-- ==== Proof.Level.lean ====
/-
  THE PERPLEXITY'S TWO FORMS on extended reals: averaging over 16 batch rows how often each code word is chosen at a
  position, the sum over positions and code words of `p log (p + ε)` is the sum over batch rows and positions of
  `log (p + ε)` at the chosen code word, over 16: a code word chosen `n` times contributes `n / 16` of its logarithm, once
  per time chosen.
-/
module

public import Idealize.ShloMosaic.PureOps.Ideal.Laws

@[expose] public section

noncomputable section

open Idealize.ShloMosaic
open scoped BigOperators

namespace Vq

/-- The small constant under the logarithm is a positive real. -/
theorem eps_pos : ∃ x : ℝ, 0 < x ∧ Ideal.ofBits .f32 0x3727C5AC#32 = (x : EReal) := by
  refine ⟨_, ?_, by simp [Ideal.ofBits, Ideal.ieee, -EReal.coe_mul]; rfl⟩
  norm_num

theorem sixteenth : Ideal.ofBits .f32 0x3D800000#32 = (((1 : ℝ) / 16 : ℝ) : EReal) := by
  simp [Ideal.ofBits, Ideal.ieee, -EReal.coe_mul]
  norm_num

theorem sixteen : Ideal.ofBits .f32 0x41800000#32 = ((16 : ℝ) : EReal) := by
  simp [Ideal.ofBits, Ideal.ieee, -EReal.coe_mul]
  norm_num

/-- A count over 16. -/
def mean (n : ℕ) : EReal := (((n : ℝ) * (1 / 16) : ℝ) : EReal)

/-- The logarithm of a count over 16 plus the small constant. -/
def logMean (n : ℕ) : EReal := Ideal.log (mean n + Ideal.ofBits .f32 0x3727C5AC#32)

/-- Every such logarithm is a real. -/
theorem logMean_real : ∃ L : ℕ → ℝ, ∀ n, logMean n = (L n : EReal) := by
  obtain ⟨x, hx, hb⟩ := eps_pos
  refine ⟨fun n => Real.log ((n : ℝ) * (1 / 16) + x), fun n => ?_⟩
  unfold logMean mean
  rw [hb, ← EReal.coe_add]
  show (if (n : ℝ) * (1 / 16) + x ≤ 0 then (⊥ : EReal) else (Real.log ((n : ℝ) * (1 / 16) + x) : EReal)) = _
  have : (0 : ℝ) ≤ (n : ℝ) * (1 / 16) := by positivity
  rw [if_neg (by linarith)]

variable (q : Fin 16 → Fin 576 → Fin 8192)

/-- How many of the 16 batch rows choose code word `e` at position `t`. -/
def level (t : Fin 576) (e : Fin 8192) : ℕ := ∑ b : Fin 16, if q b t = e then 1 else 0

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The sum over code words of `p log (p + ε)` is the sum over the choices of `log (p + ε)`, over 16. -/
theorem perplexity_sum :
    ∑ t, ∑ e, mean (level q t e) * logMean (level q t e)
      = (∑ b, ∑ t, logMean (level q t (q b t))) * (((1 : ℝ) / 16 : ℝ) : EReal) := by
  obtain ⟨L, hL⟩ := logMean_real
  unfold mean
  simp only [hL, ← EReal.coe_mul, ← coe_sum]
  refine congrArg (fun z : ℝ => (z : EReal)) ?_
  rw [Finset.sum_comm (f := fun b t => L (level q t (q b t))), Finset.sum_mul]
  refine Finset.sum_congr rfl fun t _ => ?_
  have h : ∀ e, ((level q t e : ℕ) : ℝ) * (1 / 16) * L (level q t e)
      = ∑ b : Fin 16, if q b t = e then L (level q t e) * (1 / 16) else 0 := fun e => by
    rw [show ((level q t e : ℕ) : ℝ) = ∑ b : Fin 16, if q b t = e then (1 : ℝ) else 0 by
      unfold level; push_cast; rfl, Finset.sum_mul, Finset.sum_mul]
    refine Finset.sum_congr rfl fun b _ => ?_
    split_ifs <;> ring
  rw [Finset.sum_congr rfl fun e _ => h e, Finset.sum_comm, Finset.sum_mul]
  refine Finset.sum_congr rfl fun b _ => ?_
  rw [Finset.sum_ite_eq]
  simp

end Vq
-- ==== Proof.Perp.lean ====
/-
  THE SECOND REGION, read at its one output element: from the chosen indices, the exponential of minus the sum over batch
  rows and positions of the logarithm of how often the index chosen is chosen at that position, over 16.
-/
module

public import proofs.«01_k».proof.Proof.FirstMin
public import proofs.«01_k».proof.Proof.Level
public import proofs.«01_k».proof.Proof.BlockOut

@[expose] public section

noncomputable section

namespace Cert.KernelIdeal.Value

open Cert.KernelIdeal Cert.KernelIdeal.Gen Vq
open Idealize.ShloMosaic Idealize.ShloMosaic.TcCoe Idealize.ShloMosaic.Tactic Idealize.ShloMosaic.ValueIdx
open Idealize.SL Idealize.SL.Sem
open scoped BigOperators

/-- Batch row `n` of the indices laid out over the array, at an index. -/
theorem slice_apply (n : Nat) (hn : n < 16) (h : S16x576.Slices ![n, 0] S1x576) (v1 : IVec S16x576 32) (b : Fin 16) (t : Fin 576) :
    broadcastTo S16x576 (extractStridedSlice S1x576 ![n, 0] v1 h) broadcasts_S1x576_S16x576 (ix2 b t) = v1 (ix2 ⟨n, hn⟩ t) := by
  refine (broadcastTo_apply (extractStridedSlice S1x576 ![n, 0] v1 h) broadcasts_S1x576_S16x576 (ix2 b t) (ix2 (0 : Fin 1) t)
    fun a => ?_).trans (extractStridedSlice_apply ![n, 0] v1 h (ix2 (0 : Fin 1) t) (ix2 ⟨n, hn⟩ t) fun a => ?_)
  · match a with
    | ⟨0, _⟩ => rfl
    | ⟨1, _⟩ => rfl
  · match a with
    | ⟨0, _⟩ => rfl
    | ⟨1, _⟩ => exact (Nat.zero_add _).symm

section
variable (x : IVec S16x576 32) (q : Fin 16 → Fin 576 → Fin 8192) (hq : ∀ b t, x (ix2 b t) = BitVec.ofNat 32 (q b t).val)

/-- The comparison of every index with batch row `n`'s at its position, as words. -/
abbrev same (n : Nat) (h : S16x576.Slices ![n, 0] S1x576) : IVec S16x576 32 :=
  extui 32 (cmpi .eq x (broadcastTo S16x576 (extractStridedSlice S1x576 ![n, 0] x h) broadcasts_S1x576_S16x576)) natLt_1_32

/-- How often each index is chosen at its position: the sum of the comparisons with the 16 batch rows. -/
abbrev counts : IVec S16x576 32 :=
  addi (addi (addi (addi (addi (addi (addi (addi (addi (addi (addi (addi (addi (addi (addi (addi (broadcast S16x576 0#32) (same x 0 slices_S16x576_o0_0_S1x576)) (same x 1 slices_S16x576_o1_0_S1x576)) (same x 2 slices_S16x576_o2_0_S1x576)) (same x 3 slices_S16x576_o3_0_S1x576)) (same x 4 slices_S16x576_o4_0_S1x576)) (same x 5 slices_S16x576_o5_0_S1x576)) (same x 6 slices_S16x576_o6_0_S1x576)) (same x 7 slices_S16x576_o7_0_S1x576)) (same x 8 slices_S16x576_o8_0_S1x576)) (same x 9 slices_S16x576_o9_0_S1x576)) (same x 10 slices_S16x576_o10_0_S1x576)) (same x 11 slices_S16x576_o11_0_S1x576)) (same x 12 slices_S16x576_o12_0_S1x576)) (same x 13 slices_S16x576_o13_0_S1x576)) (same x 14 slices_S16x576_o14_0_S1x576)) (same x 15 slices_S16x576_o15_0_S1x576)

/-- The second region's value from the counts. -/
abbrev perpFrom (v82 : IVec S16x576 32) : FVec Ideal S1x1 .f32 :=
  exp (subf (broadcast S1x1 (Scalar.ofBits .f32 0x00000000#32)) (mulf (broadcast S1x1 (extractAt ![0, 0, 0]
    (shapeCast S1x1x1 (multiReduction .add [1, 2] S1 (shapeCast S1x16x576 (log (addf (mulf (sitofp .f32 v82)
      (broadcast S16x576 (Scalar.ofBits .f32 0x3D800000#32))) (broadcast S16x576 (Scalar.ofBits .f32 0x3727C5AC#32))))
        shapeCasts_S16x576_S1x16x576) 0x00000000#32 reduces_S1x16x576_S1 (.inl rfl) rfl) shapeCasts_S1_S1x1x1)
          inpos_S1x1x1_p0_0_0)) (broadcast S1x1 (Scalar.ofBits .f32 0x3D800000#32))))

theorem pay1_eq : k1_pay1 (F := Ideal) (k1_pay2 (F := Ideal) x) (k1_pay3 (F := Ideal) x) (k1_pay4 (F := Ideal) x) = perpFrom (counts x) := by
  unfold k1_pay1 k1_pay3 k1_pay4 k1_pay2
  rw [shapeCast_self]

include hq in
/-- A comparison, at an index. -/
theorem same_apply (n : Nat) (hn : n < 16) (h : S16x576.Slices ![n, 0] S1x576) (b : Fin 16) (t : Fin 576) :
    same x n h (ix2 b t) = BitVec.ofNat 32 (if q ⟨n, hn⟩ t = q b t then 1 else 0) := by
  show (IntOp.cmpi .eq (x (ix2 b t))
    (broadcastTo S16x576 (extractStridedSlice S1x576 ![n, 0] x h) broadcasts_S1x576_S16x576 (ix2 b t))).setWidth 32 = _
  rw [slice_apply n hn h x b t, hq, hq, eq_ofNat (lt_trans (q b t).isLt (by norm_num)) (lt_trans (q ⟨n, hn⟩ t).isLt (by norm_num))]
  by_cases e : q ⟨n, hn⟩ t = q b t
  · rw [if_pos e, e, decide_eq_true rfl]; rfl
  · rw [if_neg e, decide_eq_false fun h => e (Fin.ext h.symm)]; rfl

include hq in
/-- A count, at an index. -/
theorem counts_apply (b : Fin 16) (t : Fin 576) : counts x (ix2 b t) = BitVec.ofNat 32 (level q t (q b t)) := by
  show ((((((((((((((((0#32 + same x 0 slices_S16x576_o0_0_S1x576 (ix2 b t)) + same x 1 slices_S16x576_o1_0_S1x576 (ix2 b t)) + same x 2 slices_S16x576_o2_0_S1x576 (ix2 b t)) + same x 3 slices_S16x576_o3_0_S1x576 (ix2 b t)) + same x 4 slices_S16x576_o4_0_S1x576 (ix2 b t)) + same x 5 slices_S16x576_o5_0_S1x576 (ix2 b t)) + same x 6 slices_S16x576_o6_0_S1x576 (ix2 b t)) + same x 7 slices_S16x576_o7_0_S1x576 (ix2 b t)) + same x 8 slices_S16x576_o8_0_S1x576 (ix2 b t)) + same x 9 slices_S16x576_o9_0_S1x576 (ix2 b t)) + same x 10 slices_S16x576_o10_0_S1x576 (ix2 b t)) + same x 11 slices_S16x576_o11_0_S1x576 (ix2 b t)) + same x 12 slices_S16x576_o12_0_S1x576 (ix2 b t)) + same x 13 slices_S16x576_o13_0_S1x576 (ix2 b t)) + same x 14 slices_S16x576_o14_0_S1x576 (ix2 b t)) + same x 15 slices_S16x576_o15_0_S1x576 (ix2 b t)) = _
  rw [same_apply x q hq 0 (by norm_num), same_apply x q hq 1 (by norm_num), same_apply x q hq 2 (by norm_num), same_apply x q hq 3 (by norm_num), same_apply x q hq 4 (by norm_num), same_apply x q hq 5 (by norm_num), same_apply x q hq 6 (by norm_num), same_apply x q hq 7 (by norm_num), same_apply x q hq 8 (by norm_num), same_apply x q hq 9 (by norm_num), same_apply x q hq 10 (by norm_num), same_apply x q hq 11 (by norm_num), same_apply x q hq 12 (by norm_num), same_apply x q hq 13 (by norm_num), same_apply x q hq 14 (by norm_num), same_apply x q hq 15 (by norm_num)]
  unfold level
  simp only [Fin.sum_univ_castSucc, Fin.sum_univ_zero, BitVec.ofNat_add]
  rfl

/-- A count of 16 is at most 16. -/
theorem level_le (t : Fin 576) (e : Fin 8192) : level q t e ≤ 16 := by
  unfold level
  refine (Finset.sum_le_card_nsmul Finset.univ _ 1 fun b _ => ?_).trans (by simp)
  split_ifs <;> omega

include hq in
/-- The second region's value. -/
theorem perp_apply (j : S1x1.Idx) :
    k1_pay1 (F := Ideal) (k1_pay2 (F := Ideal) x) (k1_pay3 (F := Ideal) x) (k1_pay4 (F := Ideal) x) j
      = Ideal.exp (0 - (∑ b, ∑ t, logMean (level q t (q b t))) * (((1 : ℝ) / 16 : ℝ) : EReal)) := by
  rw [pay1_eq]
  show Ideal.exp (Ideal.ofBits .f32 0x00000000#32 - _ * Ideal.ofBits .f32 0x3D800000#32) = _
  rw [Ideal.ofBits_zero_f32, sixteenth]
  refine congrArg (fun z => Ideal.exp (0 - z * (((1 : ℝ) / 16 : ℝ) : EReal))) ?_
  unfold extractAt
  rw [show (shapeCast S1x1x1 _ shapeCasts_S1_S1x1x1 : S1x1x1.Idx → EReal) _ = _ from
    shapeCast_apply _ shapeCasts_S1_S1x1x1 _ (ix1 0) rfl]
  refine (Ideal.multiReduction_add_total _ _ _ (fun b => match b with | ⟨0, _⟩ => rfl) _ _ _).trans ?_
  refine ((Shape.reshapeEquiv shapeCasts_S16x576_S1x16x576).sum_comp _).trans ?_
  refine (sum_idx2 _).trans (Finset.sum_congr rfl fun b _ => Finset.sum_congr rfl fun t _ => ?_)
  have hs : sitofp (F := Ideal) .f32 (counts x) (ix2 b t) = (((counts x (ix2 b t)).toInt : ℝ) : EReal) := rfl
  show Ideal.log (sitofp (F := Ideal) .f32 (counts x) (ix2 b t) * Ideal.ofBits .f32 0x3D800000#32 + Ideal.ofBits .f32 0x3727C5AC#32) = _
  rw [hs, counts_apply x q hq, toInt_ofNat (lt_of_le_of_lt (level_le q t _) (by norm_num)), sixteenth, ← EReal.coe_mul, Int.cast_natCast]
  rfl
end

end Cert.KernelIdeal.Value
-- ==== Proof.KernelValue.lean ====
/-
  THE KERNEL'S FIVE RESULTS, from its arguments: the first region's arrays in the results' shapes, the loss the host
  computes from the accumulated error, and the second region's value of the indices.
-/
module

public import proofs.«01_k».proof.Proof.Inputs
public import proofs.«01_k».proof.Proof.Perp

@[expose] public section

noncomputable section

namespace Cert.KernelIdeal.Value

open Cert.KernelIdeal Cert.KernelIdeal.Gen Vq
open Idealize.ShloMosaic Idealize.ShloMosaic.TcCoe Idealize.ShloMosaic.Tactic Idealize.ShloMosaic.ValueIdx
open Idealize.ShloMosaic.StableHlo
open Idealize.SL Idealize.SL.Sem
open scoped BigOperators

section
variable (V : Valuation τ sig (Elt Ideal))

/-- A quarter of the mean squared error added to it, from the total. -/
abbrev lossFrom (a : FVec Ideal S_ .f32) : FVec Ideal S_ .f32 :=
  addf (Host.divf a (constant S_ .f32 0x4A100000#32))
    (mulf (constant S_ .f32 0x3E800000#32) (Host.divf a (constant S_ .f32 0x4A100000#32)))

theorem ops1_v9 : after hostOps1 V (Proc.devRef .tc main_v9)
    = shapeCast S16x576 (V (Proc.devRef .tc main_v8_1)) shapeCasts_S9216x1_S16x576 := by after_results_simp; rfl
theorem ops1_v10 : after hostOps1 V (Proc.devRef .tc main_v10)
    = shapeCast S16x576x8192 (V (Proc.devRef .tc main_v8_0)) shapeCasts_S9216x8192_S16x576x8192 := by after_results_simp; rfl
theorem ops1_v11 : after hostOps1 V (Proc.devRef .tc main_v11)
    = shapeCast S16x147456 (V (Proc.devRef .tc main_v8_2)) shapeCasts_S9216x256_S16x147456 := by after_results_simp; rfl
theorem ops1_v15 : after hostOps1 V (Proc.devRef .tc main_v15)
    = lossFrom (shapeCast S_ (V (Proc.devRef .tc main_v8_3)) shapeCasts_S1x1_S_) := by after_results_simp; rfl
theorem ops2_v17 : after hostOps2 V (Proc.devRef .tc main_v17)
    = shapeCast S_ (V (Proc.devRef .tc main_v16)) shapeCasts_S1x1_S_ := by after_results_simp; rfl
end

variable (m : (ℓ : Loc nD τ sig) → Buf (Elt Ideal) ℓ) (ρ : Dev nD → PrngReg) (c : Dev nD)

/-- The rows. -/
abbrev Xr : Fin 9216 → Fin 256 → EReal := rowsOf (Xin m c)
/-- The code book. -/
abbrev Wr : Fin 8192 → Fin 256 → EReal := bookOf (Win m c)

theorem W2_v8_0 : W2 m ρ c (Proc.devRef .tc main_v8_0) = encArr (Xr m c) (Wr m c) :=
  (W2_arr m ρ c 5).trans (enc_final (inputs m ρ c))
theorem W2_v8_1 : W2 m ρ c (Proc.devRef .tc main_v8_1) = idxArr (Xr m c) (Wr m c) :=
  (W2_arr m ρ c 6).trans (idx_final (inputs m ρ c))
theorem W2_v8_2 : W2 m ρ c (Proc.devRef .tc main_v8_2) = steArr (Xr m c) (Wr m c) :=
  (W2_arr m ρ c 7).trans (ste_final (inputs m ρ c))
theorem W2_v8_3 : W2 m ρ c (Proc.devRef .tc main_v8_3) = accArr (Xr m c) (Wr m c) :=
  (W2_arr m ρ c 8).trans (acc_final (inputs m ρ c))

/-- The indices, in the result's shape. -/
abbrev idxRes (X : Fin 9216 → Fin 256 → EReal) (W : Fin 8192 → Fin 256 → EReal) : IVec S16x576 32 :=
  shapeCast S16x576 (idxArr X W) shapeCasts_S9216x1_S16x576

theorem W3_v9 : W3 m ρ c (Proc.devRef .tc main_v9) = idxRes (Xr m c) (Wr m c) :=
  (ops1_v9 (W2 m ρ c)).trans (congrArg (fun z => shapeCast S16x576 z shapeCasts_S9216x1_S16x576) (W2_v8_1 m ρ c))
theorem W3_v10 : W3 m ρ c (Proc.devRef .tc main_v10)
    = shapeCast S16x576x8192 (encArr (Xr m c) (Wr m c)) shapeCasts_S9216x8192_S16x576x8192 :=
  (ops1_v10 (W2 m ρ c)).trans (congrArg (fun z => shapeCast S16x576x8192 z shapeCasts_S9216x8192_S16x576x8192) (W2_v8_0 m ρ c))
theorem W3_v11 : W3 m ρ c (Proc.devRef .tc main_v11)
    = shapeCast S16x147456 (steArr (Xr m c) (Wr m c)) shapeCasts_S9216x256_S16x147456 :=
  (ops1_v11 (W2 m ρ c)).trans (congrArg (fun z => shapeCast S16x147456 z shapeCasts_S9216x256_S16x147456) (W2_v8_2 m ρ c))
/-- The accumulated error's one entry, as a scalar array. -/
theorem accArr_scalar (X : Fin 9216 → Fin 256 → EReal) (W : Fin 8192 → Fin 256 → EReal) :
    (shapeCast S_ (accArr X W) shapeCasts_S1x1_S_ : FVec Ideal S_ .f32) = fun _ => total X W := by
  unfold accArr
  generalize total X W = y
  rfl
theorem W3_v15 : W3 m ρ c (Proc.devRef .tc main_v15) = lossFrom (fun _ => total (Xr m c) (Wr m c)) :=
  (ops1_v15 (W2 m ρ c)).trans ((congrArg (fun z => lossFrom (shapeCast S_ z shapeCasts_S1x1_S_)) (W2_v8_3 m ρ c)).trans
    (congrArg lossFrom (accArr_scalar _ _)))

/-! ## The second region -/

theorem index1_0 (t : Fin cfg1.N) : win1_0.index t 0 = 0 ∧ win1_0.index t 1 = 0 := by
  revert t; decide +kernel
theorem index1_1 (t : Fin cfg1.N) : win1_1.index t 0 = 0 ∧ win1_1.index t 1 = 0 := by
  revert t; decide +kernel

section
variable (V : (c : Dev nD) → (b : Ref sig .tc) → Buf (Elt Ideal) ((c : Thread nD τ).loc b))

/-- The second region reads its input array whole. -/
theorem iblk1_0 (t : Fin cfg1.N) : (iblk1 V c 0 t : IVec S16x576 32) = V c main_v9 := by
  funext j
  unfold iblk1
  rw [View.read_apply]
  show V c main_v9 _ = V c main_v9 _
  congr 1
  funext a
  apply Fin.ext
  match a with
  | ⟨0, _⟩ => show win1_0.index t 0 * 16 + 1 * (j 0).val = (j 0).val; rw [(index1_0 t).1]; omega
  | ⟨1, _⟩ => show win1_0.index t 1 * 576 + 1 * (j 1).val = (j 1).val; rw [(index1_0 t).2]; omega

variable (q : Fin 16 → Fin 576 → Fin 8192)

/-- The perplexity of the choices `q`. -/
def perpVal : EReal := Ideal.exp (0 - (∑ b, ∑ t, logMean (level q t (q b t))) * (((1 : ℝ) / 16 : ℝ) : EReal))

variable {V c q} (hq : ∀ b t, (V c main_v9 : IVec S16x576 32) (ix2 b t) = BitVec.ofNat 32 (q b t).val)
include hq

/-- The second region's one write-back. -/
theorem perp_flushed (t : Fin cfg1.N) :
    (dat1 V c).flushed 1 t = ((cfg1.win 1).blk t).view.read (Elt Ideal) (fun _ => perpVal q : FVec Ideal S1x1 .f32) := by
  show (cfg1.win 1).cut (grid1.coords t) ((dat1 V c).after 1 t) = _
  rw [after1_1]
  unfold out1_1
  rw [View.canon_unit_zero hz, View.ld_unit_zero (S := S16x576) hz, iblk1_0]
  funext j
  rw [View.read_apply]
  have key := perp_apply (V c main_v9) q hq
  generalize k1_pay1 (F := Ideal) (k1_pay2 (F := Ideal) (V c main_v9)) (k1_pay3 (F := Ideal) (V c main_v9)) (k1_pay4 (F := Ideal) (V c main_v9)) = z at key ⊢
  exact key _

/-- The second region's output array. -/
theorem perp_final : (dat1 V c).arrAt 1 cfg1.N = (fun _ => perpVal q : FVec Ideal S1x1 .f32) :=
  (dat1 V c).arrAt_eq_of_cover 1 _ (fun t _ => perp_flushed hq t) fun i =>
    ⟨t1_0, flush1_1 t1_0, by
      show i ∈ ((View.whole main_v16).slice (win1_1.rect t1_0)).set
      rw [View.set_slice_whole, Rect.mem_set_unit]
      intro a
      have h0 : (i 0).val < 1 := (i 0).isLt
      have h1 : (i 1).val < 1 := (i 1).isLt
      match a with
      | ⟨0, _⟩ =>
        show win1_1.index t1_0 0 * 1 ≤ (i 0).val ∧ (i 0).val < win1_1.index t1_0 0 * 1 + 1
        rw [(index1_1 _).1]
        omega
      | ⟨1, _⟩ =>
        show win1_1.index t1_0 1 * 1 ≤ (i 1).val ∧ (i 1).val < win1_1.index t1_0 1 * 1 + 1
        rw [(index1_1 _).2]
        omega⟩
end

/-- The row at batch row `b`, position `t`. -/
def rowAt (b : Fin 16) (t : Fin 576) : Fin 9216 := ⟨b.val * 576 + t.val, by omega⟩

/-- The choices, at batch row and position. -/
def choice (X : Fin 9216 → Fin 256 → EReal) (W : Fin 8192 → Fin 256 → EReal) (b : Fin 16) (t : Fin 576) : Fin 8192 :=
  code X W (rowAt b t)

theorem idxRes_apply (X : Fin 9216 → Fin 256 → EReal) (W : Fin 8192 → Fin 256 → EReal) (b : Fin 16) (t : Fin 576) :
    idxRes X W (ix2 b t) = BitVec.ofNat 32 (choice X W b t).val := by
  refine (shapeCast_apply _ shapeCasts_S9216x1_S16x576 (ix2 b t) (ix2 (rowAt b t) 0) ?_).trans rfl
  rw [Shape.rowMajor_val_two, Shape.rowMajor_val_two]
  show (b.val * 576 + t.val) * 1 + 0 = b.val * 576 + t.val
  omega

/-! ## The results -/

theorem res_indices : W5 m ρ c (Proc.devRef .tc main_v9) = idxRes (Xr m c) (Wr m c) :=
  (W5_of m ρ c main_v9 (by decide)).trans ((W4_of m ρ c main_v9 (by decide)).trans (W3_v9 m ρ c))
theorem res_encodings : W5 m ρ c (Proc.devRef .tc main_v10)
    = shapeCast S16x576x8192 (encArr (Xr m c) (Wr m c)) shapeCasts_S9216x8192_S16x576x8192 :=
  (W5_of m ρ c main_v10 (by decide)).trans ((W4_of m ρ c main_v10 (by decide)).trans (W3_v10 m ρ c))
theorem res_ste : W5 m ρ c (Proc.devRef .tc main_v11)
    = shapeCast S16x147456 (steArr (Xr m c) (Wr m c)) shapeCasts_S9216x256_S16x147456 :=
  (W5_of m ρ c main_v11 (by decide)).trans ((W4_of m ρ c main_v11 (by decide)).trans (W3_v11 m ρ c))
theorem res_loss : W5 m ρ c (Proc.devRef .tc main_v15) = lossFrom (fun _ => total (Xr m c) (Wr m c)) :=
  (W5_of m ρ c main_v15 (by decide)).trans ((W4_of m ρ c main_v15 (by decide)).trans (W3_v15 m ρ c))
theorem res_perplexity : W5 m ρ c (Proc.devRef .tc main_v17)
    = (fun _ => perpVal (choice (Xr m c) (Wr m c)) : FVec Ideal S_ .f32) := by
  refine (ops2_v17 (W4 m ρ c)).trans ?_
  refine (congrArg (fun z => shapeCast S_ z shapeCasts_S1x1_S_) ((W4_arr m ρ c 1).trans
    (perp_final (V := V3 m ρ) (c := c) (q := choice (Xr m c) (Wr m c)) fun b t => ?_))).trans rfl
  exact (congrFun (W3_v9 m ρ c) (ix2 b t)).trans (idxRes_apply _ _ b t)

end Cert.KernelIdeal.Value
-- ==== Proof.RefRun.lean ====
/-
  THE REFERENCE'S RUN, read: the host program of `reference` is one straight line of tensor operations (the two called
  functions, argmin and one_hot, written out at their call), so its run ends with every tensor value at the fold of
  those operations over the launch contents. Here the five results are named, as functions of the two arguments.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

open Idealize.ShloMosaic Idealize.ShloMosaic.TcCoe Idealize.SL.Sem

namespace Cert.ReferenceIdeal.Value

open Cert.ReferenceIdeal Cert.ReferenceIdeal.Gen Idealize.ShloMosaic.StableHlo

variable {F : FTy → Type} [FloatOps F]

/-- The reference's operations in the order they run, part A: the distances. -/
abbrev opsA : List (HloOp τ sig (Elt F)) :=
  [ reshape main_arg0 main_v0 (rfl : (.f32 : EltTy) = .f32) shapeCasts_S16x147456_S9216x256,
    binary main_v0 main_v0 main_v1 (mulf : (⟨S9216x256, .f32⟩ : BufTy).Contents (Elt F) → (⟨S9216x256, .f32⟩ : BufTy).Contents (Elt F) → (⟨S9216x256, .f32⟩ : BufTy).Contents (Elt F)),
    nullary main_cst (constant S_ .f32 0x00000000#32),
    binary main_v1 main_cst main_v2 ((fun x v => Host.reduceAdd x v reducesTo_S9216x256_S9216_d1 h_S_) : (⟨S9216x256, .f32⟩ : BufTy).Contents (Elt F) → (⟨S_, .f32⟩ : BufTy).Contents (Elt F) → (⟨S9216, .f32⟩ : BufTy).Contents (Elt F)),
    unary main_v2 main_v3 (broadcastInDim S9216x1 ![0] bcast_S9216_S9216x1_0 : (⟨S9216, .f32⟩ : BufTy).Contents (Elt F) → (⟨S9216x1, .f32⟩ : BufTy).Contents (Elt F)),
    binary main_arg1 main_arg1 main_v4 (mulf : (⟨S8192x256, .f32⟩ : BufTy).Contents (Elt F) → (⟨S8192x256, .f32⟩ : BufTy).Contents (Elt F) → (⟨S8192x256, .f32⟩ : BufTy).Contents (Elt F)),
    nullary main_cst_0 (constant S_ .f32 0x00000000#32),
    binary main_v4 main_cst_0 main_v5 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v5 main_v6 (broadcastInDim S1x8192 ![1] bcast_S8192_S1x8192_1 : (⟨S8192, .f32⟩ : BufTy).Contents (Elt F) → (⟨S1x8192, .f32⟩ : BufTy).Contents (Elt F)),
    unary main_v3 main_v7 (broadcastInDim S9216x8192 ![0, 1] bcast_S9216x1_S9216x8192_0_1 : (⟨S9216x1, .f32⟩ : BufTy).Contents (Elt F) → (⟨S9216x8192, .f32⟩ : BufTy).Contents (Elt F)),
    unary main_v6 main_v8 (broadcastInDim S9216x8192 ![0, 1] bcast_S1x8192_S9216x8192_0_1 : (⟨S1x8192, .f32⟩ : BufTy).Contents (Elt F) → (⟨S9216x8192, .f32⟩ : BufTy).Contents (Elt F)),
    binary main_v7 main_v8 main_v9 (addf : (⟨S9216x8192, .f32⟩ : BufTy).Contents (Elt F) → (⟨S9216x8192, .f32⟩ : BufTy).Contents (Elt F) → (⟨S9216x8192, .f32⟩ : BufTy).Contents (Elt F)),
    unary main_arg1 main_v10 ((transpose S256x8192 [1, 0] · transposes_S8192x256_S256x8192_1_0) : (⟨S8192x256, .f32⟩ : BufTy).Contents (Elt F) → (⟨S256x8192, .f32⟩ : BufTy).Contents (Elt F)),
    binary main_v0 main_v10 main_v11 ((fun l r => Host.dotGeneral dot_S9216x256_S256x8192_S9216x8192_1_0_0_1_n_n none l r) : (⟨S9216x256, .f32⟩ : BufTy).Contents (Elt F) → (⟨S256x8192, .f32⟩ : BufTy).Contents (Elt F) → (⟨S9216x8192, .f32⟩ : BufTy).Contents (Elt F)),
    nullary main_cst_1 (constant S_ .f32 0x40000000#32),
    unary main_cst_1 main_v12 (broadcastInDim S9216x8192 ![] bcast_S_S9216x8192 : (⟨S_, .f32⟩ : BufTy).Contents (Elt F) → (⟨S9216x8192, .f32⟩ : BufTy).Contents (Elt F)),
    binary main_v12 main_v11 main_v13 (mulf : (⟨S9216x8192, .f32⟩ : BufTy).Contents (Elt F) → (⟨S9216x8192, .f32⟩ : BufTy).Contents (Elt F) → (⟨S9216x8192, .f32⟩ : BufTy).Contents (Elt F)),
    binary main_v9 main_v13 main_v14 (subf : (⟨S9216x8192, .f32⟩ : BufTy).Contents (Elt F) → (⟨S9216x8192, .f32⟩ : BufTy).Contents (Elt F) → (⟨S9216x8192, .f32⟩ : BufTy).Contents (Elt F)) ]

/-- The reference's operations in the order they run, part B: argmin, written out. -/
abbrev opsB : List (HloOp τ sig (Elt F)) :=
  [ TRef.nullary main_call0.v0 (iotaInDim S9216x8192 32 1),
    TRef.nullary main_call0.cst (constant S_ .f32 0x7F800000#32),
    TRef.nullary main_call0.c (constantI S_ 32 0#32),
    TRef.quaternary (.of main_v14 : TRef sig ⟨S9216x8192, .f32⟩) main_call0.v0 main_call0.cst main_call0.c main_call0.v1_0 (fun x y u v j => (Host.argReduce reducer_argmin_f32_i32 x y u v reducesTo_S9216x8192_S9216_d1 h_S_ j).1),
    TRef.quaternary (.of main_v14 : TRef sig ⟨S9216x8192, .f32⟩) main_call0.v0 main_call0.cst main_call0.c main_call0.v1_1 (fun x y u v j => (Host.argReduce reducer_argmin_f32_i32 x y u v reducesTo_S9216x8192_S9216_d1 h_S_ j).2) ]

/-- The reference's operations in the order they run, part H: one_hot, written out. -/
abbrev opsH : List (HloOp τ sig (Elt F)) :=
  [ TRef.unary (.of main_v15 : TRef sig ⟨S9216, .i32⟩) main_call1.v0 (broadcastInDim S9216x1 ![0] bcast_S9216_S9216x1_0),
    TRef.nullary main_call1.v1 (iotaInDim S1x8192 32 1),
    TRef.unary main_call1.v0 main_call1.v2 (broadcastInDim S9216x8192 ![0, 1] bcast_S9216x1_S9216x8192_0_1),
    TRef.unary main_call1.v1 main_call1.v3 (broadcastInDim S9216x8192 ![0, 1] bcast_S1x8192_S9216x8192_0_1),
    TRef.binary main_call1.v2 main_call1.v3 main_call1.v4 (cmpi .eq),
    TRef.unary main_call1.v4 main_call1.v5 (uitofp .f32) ]

/-- The reference's operations in the order they run, part C: the indices, the quantized vectors and the encodings. -/
abbrev opsC : List (HloOp τ sig (Elt F)) :=
  [ reshape main_v15 main_v17 (rfl : (.i32 : EltTy) = .i32) shapeCasts_S9216_S16x576,
    binary main_v16 main_arg1 main_v18 ((fun l r => Host.dotGeneral dot_S9216x8192_S8192x256_S9216x256_1_0_0_1_n_n none l r) : (⟨S9216x8192, .f32⟩ : BufTy).Contents (Elt F) → (⟨S8192x256, .f32⟩ : BufTy).Contents (Elt F) → (⟨S9216x256, .f32⟩ : BufTy).Contents (Elt F)),
    reshape main_v18 main_v19 (rfl : (.f32 : EltTy) = .f32) shapeCasts_S9216x256_S16x147456,
    reshape main_v16 main_v20 (rfl : (.f32 : EltTy) = .f32) shapeCasts_S9216x8192_S16x576x8192 ]

/-- The reference's operations in the order they run, part D: the loss and the straight-through result. -/
abbrev opsD : List (HloOp τ sig (Elt F)) :=
  [ binary main_v19 main_arg0 main_v21 (subf : (⟨S16x147456, .f32⟩ : BufTy).Contents (Elt F) → (⟨S16x147456, .f32⟩ : BufTy).Contents (Elt F) → (⟨S16x147456, .f32⟩ : BufTy).Contents (Elt F)),
    binary main_v21 main_v21 main_v22 (mulf : (⟨S16x147456, .f32⟩ : BufTy).Contents (Elt F) → (⟨S16x147456, .f32⟩ : BufTy).Contents (Elt F) → (⟨S16x147456, .f32⟩ : BufTy).Contents (Elt F)),
    nullary main_cst_2 (constant S_ .f32 0x00000000#32),
    binary main_v22 main_cst_2 main_v23 ((fun x v => Host.reduceAdd x v reducesTo_S16x147456_S_d0_1 h_S_) : (⟨S16x147456, .f32⟩ : BufTy).Contents (Elt F) → (⟨S_, .f32⟩ : BufTy).Contents (Elt F) → (⟨S_, .f32⟩ : BufTy).Contents (Elt F)),
    nullary main_cst_3 (constant S_ .f32 0x4A100000#32),
    binary main_v23 main_cst_3 main_v24 (Host.divf : (⟨S_, .f32⟩ : BufTy).Contents (Elt F) → (⟨S_, .f32⟩ : BufTy).Contents (Elt F) → (⟨S_, .f32⟩ : BufTy).Contents (Elt F)),
    binary main_v19 main_arg0 main_v25 (subf : (⟨S16x147456, .f32⟩ : BufTy).Contents (Elt F) → (⟨S16x147456, .f32⟩ : BufTy).Contents (Elt F) → (⟨S16x147456, .f32⟩ : BufTy).Contents (Elt F)),
    binary main_v25 main_v25 main_v26 (mulf : (⟨S16x147456, .f32⟩ : BufTy).Contents (Elt F) → (⟨S16x147456, .f32⟩ : BufTy).Contents (Elt F) → (⟨S16x147456, .f32⟩ : BufTy).Contents (Elt F)),
    nullary main_cst_4 (constant S_ .f32 0x00000000#32),
    binary main_v26 main_cst_4 main_v27 ((fun x v => Host.reduceAdd x v reducesTo_S16x147456_S_d0_1 h_S_) : (⟨S16x147456, .f32⟩ : BufTy).Contents (Elt F) → (⟨S_, .f32⟩ : BufTy).Contents (Elt F) → (⟨S_, .f32⟩ : BufTy).Contents (Elt F)),
    nullary main_cst_5 (constant S_ .f32 0x4A100000#32),
    binary main_v27 main_cst_5 main_v28 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v24 main_v29 (mulf : (⟨S_, .f32⟩ : BufTy).Contents (Elt F) → (⟨S_, .f32⟩ : BufTy).Contents (Elt F) → (⟨S_, .f32⟩ : BufTy).Contents (Elt F)),
    binary main_v28 main_v29 main_v30 (addf : (⟨S_, .f32⟩ : BufTy).Contents (Elt F) → (⟨S_, .f32⟩ : BufTy).Contents (Elt F) → (⟨S_, .f32⟩ : BufTy).Contents (Elt F)),
    binary main_v19 main_arg0 main_v31 (subf : (⟨S16x147456, .f32⟩ : BufTy).Contents (Elt F) → (⟨S16x147456, .f32⟩ : BufTy).Contents (Elt F) → (⟨S16x147456, .f32⟩ : BufTy).Contents (Elt F)),
    binary main_arg0 main_v31 main_v32 (addf : (⟨S16x147456, .f32⟩ : BufTy).Contents (Elt F) → (⟨S16x147456, .f32⟩ : BufTy).Contents (Elt F) → (⟨S16x147456, .f32⟩ : BufTy).Contents (Elt F)) ]

/-- The reference's operations in the order they run, part E: the perplexity. -/
abbrev opsE : List (HloOp τ sig (Elt F)) :=
  [ nullary main_cst_7 (constant S_ .f32 0x00000000#32),
    binary main_v20 main_cst_7 main_v33 ((fun x v => Host.reduceAdd x v reducesTo_S16x576x8192_S576x8192_d0 h_S_) : (⟨S16x576x8192, .f32⟩ : BufTy).Contents (Elt F) → (⟨S_, .f32⟩ : BufTy).Contents (Elt F) → (⟨S576x8192, .f32⟩ : BufTy).Contents (Elt F)),
    nullary main_cst_8 (constant S_ .f32 0x41800000#32),
    unary main_cst_8 main_v34 (broadcastInDim S576x8192 ![] bcast_S_S576x8192 : (⟨S_, .f32⟩ : BufTy).Contents (Elt F) → (⟨S576x8192, .f32⟩ : BufTy).Contents (Elt F)),
    binary main_v33 main_v34 main_v35 (Host.divf : (⟨S576x8192, .f32⟩ : BufTy).Contents (Elt F) → (⟨S576x8192, .f32⟩ : BufTy).Contents (Elt F) → (⟨S576x8192, .f32⟩ : BufTy).Contents (Elt F)),
    nullary main_cst_9 (constant S_ .f32 0x3727C5AC#32),
    unary main_cst_9 main_v36 (broadcastInDim S576x8192 ![] bcast_S_S576x8192 : (⟨S_, .f32⟩ : BufTy).Contents (Elt F) → (⟨S576x8192, .f32⟩ : BufTy).Contents (Elt F)),
    binary main_v35 main_v36 main_v37 (addf : (⟨S576x8192, .f32⟩ : BufTy).Contents (Elt F) → (⟨S576x8192, .f32⟩ : BufTy).Contents (Elt F) → (⟨S576x8192, .f32⟩ : BufTy).Contents (Elt F)),
    unary main_v37 main_v38 (Host.log : (⟨S576x8192, .f32⟩ : BufTy).Contents (Elt F) → (⟨S576x8192, .f32⟩ : BufTy).Contents (Elt F)),
    binary main_v35 main_v38 main_v39 (mulf : (⟨S576x8192, .f32⟩ : BufTy).Contents (Elt F) → (⟨S576x8192, .f32⟩ : BufTy).Contents (Elt F) → (⟨S576x8192, .f32⟩ : BufTy).Contents (Elt F)),
    nullary main_cst_10 (constant S_ .f32 0x00000000#32),
    binary main_v39 main_cst_10 main_v40 ((fun x v => Host.reduceAdd x v reducesTo_S576x8192_S_d0_1 h_S_) : (⟨S576x8192, .f32⟩ : BufTy).Contents (Elt F) → (⟨S_, .f32⟩ : BufTy).Contents (Elt F) → (⟨S_, .f32⟩ : BufTy).Contents (Elt F)),
    unary main_v40 main_v41 (Host.negf : (⟨S_, .f32⟩ : BufTy).Contents (Elt F) → (⟨S_, .f32⟩ : BufTy).Contents (Elt F)),
    unary main_v41 main_v42 (Host.exp : (⟨S_, .f32⟩ : BufTy).Contents (Elt F) → (⟨S_, .f32⟩ : BufTy).Contents (Elt F)) ]

/-- The reference's operations. -/
abbrev ops : List (HloOp τ sig (Elt F)) := opsA ++ (opsB ++ (opsH ++ (opsC ++ (opsD ++ opsE))))

set_option maxRecDepth 16384 in
/-- The printed program is that straight line. -/
theorem main_eq (c : Dev nD) : main (F := F) c = seq ops := rfl

/-- No buffer of the reference is scoped … -/
theorem scopedRefs_eq : (Finset.univ.filter fun b : Ref sig .tc => b.isScoped) = ∅ := by decide
/-- … and no semaphore (there is none). -/
theorem scopedSems_eq : (Finset.univ.filter fun sm : SemLoc sig => sm.isScoped .tc) = ∅ := by decide

theorem opsA_sub : (opsA : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
theorem opsB_sub : (opsB : List (HloOp τ sig (Elt F))).Forall fun op => op.bufs ⊆ tcRefs τ sig :=
  ⟨nullary_bufs_sub .., nullary_bufs_sub .., nullary_bufs_sub .., quaternary_bufs_sub .., quaternary_bufs_sub ..⟩
theorem opsH_sub : (opsH : List (HloOp τ sig (Elt F))).Forall fun op => op.bufs ⊆ tcRefs τ sig :=
  ⟨unary_bufs_sub .., nullary_bufs_sub .., unary_bufs_sub .., unary_bufs_sub .., binary_bufs_sub .., unary_bufs_sub ..⟩
theorem opsC_sub : (opsC : List (HloOp τ sig (Elt F))).Forall fun op => op.bufs ⊆ tcRefs τ sig :=
  ⟨reshape_bufs_sub .., binary_bufs_sub .., reshape_bufs_sub .., reshape_bufs_sub ..⟩
theorem opsD_sub : (opsD : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩
theorem opsE_sub : (opsE : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩
/-- Every operation reads and writes the core's own buffers only. -/
theorem ops_sub : (ops : List (HloOp τ sig (Elt F))).Forall fun op => op.bufs ⊆ tcRefs τ sig := by
  refine List.forall_iff_forall_mem.2 fun op h => ?_
  rcases List.mem_append.1 h with h | h
  · exact List.forall_iff_forall_mem.1 opsA_sub op h
  rcases List.mem_append.1 h with h | h
  · exact List.forall_iff_forall_mem.1 opsB_sub op h
  rcases List.mem_append.1 h with h | h
  · exact List.forall_iff_forall_mem.1 opsH_sub op h
  rcases List.mem_append.1 h with h | h
  · exact List.forall_iff_forall_mem.1 opsC_sub op h
  rcases List.mem_append.1 h with h | h
  · exact List.forall_iff_forall_mem.1 opsD_sub op h
  · exact List.forall_iff_forall_mem.1 opsE_sub op h

/-- Running one list and then another is running the two in a row. -/
theorem after_append (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

/-! ## The values, as functions of the arguments `x` (16 × 147456) and `w` (8192 × 256) -/

/-- `inputs.reshape(-1, 256)`. -/
def flat (x : Vec F S16x147456 .f32) : Vec F S9216x256 .f32 := shapeCast S9216x256 x shapeCasts_S16x147456_S9216x256

/-- The distances: `sum(flat ** 2, 1, keepdims) + sum(weight ** 2, 1) - 2 * (flat @ weight.T)`. -/
def dist (x : Vec F S16x147456 .f32) (w : Vec F S8192x256 .f32) : Vec F S9216x8192 .f32 :=
  subf
    (addf
      (broadcastInDim S9216x8192 ![0, 1] bcast_S9216x1_S9216x8192_0_1
        (broadcastInDim S9216x1 ![0] bcast_S9216_S9216x1_0
          (Host.reduceAdd (mulf (flat x) (flat x)) (constant S_ .f32 0x00000000#32) reducesTo_S9216x256_S9216_d1 h_S_)))
      (broadcastInDim S9216x8192 ![0, 1] bcast_S1x8192_S9216x8192_0_1
        (broadcastInDim S1x8192 ![1] bcast_S8192_S1x8192_1
          (Host.reduceAdd (mulf w w) (constant S_ .f32 0x00000000#32) reducesTo_S8192x256_S8192_d1 h_S_))))
    (mulf (broadcastInDim S9216x8192 ![] bcast_S_S9216x8192 (constant S_ .f32 0x40000000#32))
      (Host.dotGeneral dot_S9216x256_S256x8192_S9216x8192_1_0_0_1_n_n none (flat x)
        (transpose S256x8192 [1, 0] w transposes_S8192x256_S256x8192_1_0)))

/-- `argmin(distances, 1)`: the pairwise reduction of values and positions, its position. -/
def argminOf (d : Vec F S9216x8192 .f32) : Vec F S9216 .i32 :=
  fun j => (Host.argReduce reducer_argmin_f32_i32 d (iotaInDim S9216x8192 32 1) (constant S_ .f32 0x7F800000#32)
    (constantI S_ 32 0#32) reducesTo_S9216x8192_S9216_d1 h_S_ j).2
/-- The encoding indices of the arguments. -/
def argmin (x : Vec F S16x147456 .f32) (w : Vec F S8192x256 .f32) : Vec F S9216 .i32 := argminOf (dist x w)

/-- `one_hot(encoding_indices, 8192)`. -/
def onehotOf (i : Vec F S9216 .i32) : Vec F S9216x8192 .f32 :=
  uitofp .f32 (cmpi .eq
    (broadcastInDim S9216x8192 ![0, 1] bcast_S9216x1_S9216x8192_0_1 (broadcastInDim S9216x1 ![0] bcast_S9216_S9216x1_0 i))
    (broadcastInDim S9216x8192 ![0, 1] bcast_S1x8192_S9216x8192_0_1 (iotaInDim S1x8192 32 1)))
/-- The encodings of the arguments, a row per vector. -/
def onehot (x : Vec F S16x147456 .f32) (w : Vec F S8192x256 .f32) : Vec F S9216x8192 .f32 := onehotOf (argmin x w)

/-- `encodings @ weight`, in the inputs' shape. -/
def quantOf (h : Vec F S9216x8192 .f32) (w : Vec F S8192x256 .f32) : Vec F S16x147456 .f32 :=
  shapeCast S16x147456 (Host.dotGeneral dot_S9216x8192_S8192x256_S9216x256_1_0_0_1_n_n none h w) shapeCasts_S9216x256_S16x147456
/-- The quantized vectors of the arguments. -/
def quant (x : Vec F S16x147456 .f32) (w : Vec F S8192x256 .f32) : Vec F S16x147456 .f32 := quantOf (onehot x w) w

/-- `mean((quantized - inputs) ** 2)`. -/
def mseOf (q x : Vec F S16x147456 .f32) : Vec F S_ .f32 :=
  Host.divf (Host.reduceAdd (mulf (subf q x) (subf q x)) (constant S_ .f32 0x00000000#32)
    reducesTo_S16x147456_S_d0_1 h_S_) (constant S_ .f32 0x4A100000#32)
/-- `q_latent_loss + 0.25 * e_latent_loss`. -/
def lossOf (q x : Vec F S16x147456 .f32) : Vec F S_ .f32 :=
  addf (mseOf q x) (mulf (constant S_ .f32 0x3E800000#32) (mseOf q x))
/-- Result 1, the loss. -/
def loss (x : Vec F S16x147456 .f32) (w : Vec F S8192x256 .f32) : Vec F S_ .f32 := lossOf (quant x w) x

/-- Result 2: `inputs + (quantized - inputs)`. -/
def ste (x : Vec F S16x147456 .f32) (w : Vec F S8192x256 .f32) : Vec F S16x147456 .f32 := addf x (subf (quant x w) x)

/-- Result 4: the encoding indices, 16 × 576. -/
def indices (x : Vec F S16x147456 .f32) (w : Vec F S8192x256 .f32) : Vec F S16x576 .i32 :=
  shapeCast S16x576 (argmin x w) shapeCasts_S9216_S16x576

/-- Result 5: the encodings, 16 × 576 × 8192. -/
def encodings (x : Vec F S16x147456 .f32) (w : Vec F S8192x256 .f32) : Vec F S16x576x8192 .f32 :=
  shapeCast S16x576x8192 (onehot x w) shapeCasts_S9216x8192_S16x576x8192

/-- `mean(encodings, 0)`. -/
def probsOf (e : Vec F S16x576x8192 .f32) : Vec F S576x8192 .f32 :=
  Host.divf (Host.reduceAdd e (constant S_ .f32 0x00000000#32) reducesTo_S16x576x8192_S576x8192_d0 h_S_)
    (broadcastInDim S576x8192 ![] bcast_S_S576x8192 (constant S_ .f32 0x41800000#32))

/-- `exp(-sum(avg_probs * log(avg_probs + 1e-5)))`. -/
def perpOf (e : Vec F S16x576x8192 .f32) : Vec F S_ .f32 :=
  Host.exp (Host.negf (Host.reduceAdd
    (mulf (probsOf e) (Host.log (addf (probsOf e) (broadcastInDim S576x8192 ![] bcast_S_S576x8192 (constant S_ .f32 0x3727C5AC#32)))))
    (constant S_ .f32 0x00000000#32) reducesTo_S576x8192_S_d0_1 h_S_))
/-- Result 3, the perplexity. -/
def perplexity (x : Vec F S16x147456 .f32) (w : Vec F S8192x256 .f32) : Vec F S_ .f32 := perpOf (encodings x w)

/-! ## What each part leaves -/

section Parts
variable (V : Valuation τ sig (Elt F))

theorem A_v14 : after opsA V (Proc.devRef .tc main_v14) = dist (V (Proc.devRef .tc main_arg0)) (V (Proc.devRef .tc main_arg1)) := by after_results_simp; rfl
theorem A_arg0 : after opsA V (Proc.devRef .tc main_arg0) = V (Proc.devRef .tc main_arg0) := by after_results_simp
theorem A_arg1 : after opsA V (Proc.devRef .tc main_arg1) = V (Proc.devRef .tc main_arg1) := by after_results_simp
theorem B_v15 : after opsB V (Proc.devRef .tc main_v15) = argminOf (V (Proc.devRef .tc main_v14)) := by after_results_simp; rfl
theorem H_v16 : after opsH V (Proc.devRef .tc main_v16) = onehotOf (V (Proc.devRef .tc main_v15)) := by after_results_simp; rfl
theorem H_v15 : after opsH V (Proc.devRef .tc main_v15) = V (Proc.devRef .tc main_v15) := by after_results_simp
theorem H_arg0 : after opsH V (Proc.devRef .tc main_arg0) = V (Proc.devRef .tc main_arg0) := by after_results_simp
theorem H_arg1 : after opsH V (Proc.devRef .tc main_arg1) = V (Proc.devRef .tc main_arg1) := by after_results_simp
theorem B_arg0 : after opsB V (Proc.devRef .tc main_arg0) = V (Proc.devRef .tc main_arg0) := by after_results_simp
theorem B_arg1 : after opsB V (Proc.devRef .tc main_arg1) = V (Proc.devRef .tc main_arg1) := by after_results_simp
theorem C_v17 : after opsC V (Proc.devRef .tc main_v17) = shapeCast S16x576 (V (Proc.devRef .tc main_v15)) shapeCasts_S9216_S16x576 := by after_results_simp; rfl
theorem C_v19 : after opsC V (Proc.devRef .tc main_v19) = quantOf (V (Proc.devRef .tc main_v16)) (V (Proc.devRef .tc main_arg1)) := by after_results_simp; rfl
theorem C_v20 : after opsC V (Proc.devRef .tc main_v20) = shapeCast S16x576x8192 (V (Proc.devRef .tc main_v16)) shapeCasts_S9216x8192_S16x576x8192 := by after_results_simp; rfl
theorem C_arg0 : after opsC V (Proc.devRef .tc main_arg0) = V (Proc.devRef .tc main_arg0) := by after_results_simp
theorem C_arg1 : after opsC V (Proc.devRef .tc main_arg1) = V (Proc.devRef .tc main_arg1) := by after_results_simp
theorem D_v30 : after opsD V (Proc.devRef .tc main_v30) = lossOf (V (Proc.devRef .tc main_v19)) (V (Proc.devRef .tc main_arg0)) := by after_results_simp; rfl
theorem D_v32 : after opsD V (Proc.devRef .tc main_v32) = addf (V (Proc.devRef .tc main_arg0)) (subf (V (Proc.devRef .tc main_v19)) (V (Proc.devRef .tc main_arg0))) := by after_results_simp
theorem D_v17 : after opsD V (Proc.devRef .tc main_v17) = V (Proc.devRef .tc main_v17) := by after_results_simp
theorem D_v20 : after opsD V (Proc.devRef .tc main_v20) = V (Proc.devRef .tc main_v20) := by after_results_simp
theorem D_arg0 : after opsD V (Proc.devRef .tc main_arg0) = V (Proc.devRef .tc main_arg0) := by after_results_simp
theorem D_arg1 : after opsD V (Proc.devRef .tc main_arg1) = V (Proc.devRef .tc main_arg1) := by after_results_simp
theorem E_v42 : after opsE V (Proc.devRef .tc main_v42) = perpOf (V (Proc.devRef .tc main_v20)) := by after_results_simp; rfl
theorem E_v30 : after opsE V (Proc.devRef .tc main_v30) = V (Proc.devRef .tc main_v30) := by after_results_simp
theorem E_v32 : after opsE V (Proc.devRef .tc main_v32) = V (Proc.devRef .tc main_v32) := by after_results_simp
theorem E_v17 : after opsE V (Proc.devRef .tc main_v17) = V (Proc.devRef .tc main_v17) := by after_results_simp
theorem E_v20 : after opsE V (Proc.devRef .tc main_v20) = V (Proc.devRef .tc main_v20) := by after_results_simp
theorem E_arg0 : after opsE V (Proc.devRef .tc main_arg0) = V (Proc.devRef .tc main_arg0) := by after_results_simp
theorem E_arg1 : after opsE V (Proc.devRef .tc main_arg1) = V (Proc.devRef .tc main_arg1) := by after_results_simp
/-! ### The whole line -/

theorem loss_eq : after ops V (Proc.devRef .tc main_v30) = loss (V (Proc.devRef .tc main_arg0)) (V (Proc.devRef .tc main_arg1)) := by
  rw [ops, after_append, after_append, after_append, after_append, after_append, E_v30, D_v30, C_v19, C_arg0, H_v16, H_arg0, H_arg1, B_v15, B_arg0, B_arg1, A_v14, A_arg0, A_arg1]
  unfold loss quant onehot argmin; rfl
theorem ste_eq : after ops V (Proc.devRef .tc main_v32) = ste (V (Proc.devRef .tc main_arg0)) (V (Proc.devRef .tc main_arg1)) := by
  rw [ops, after_append, after_append, after_append, after_append, after_append, E_v32, D_v32, C_v19, C_arg0, H_v16, H_arg0, H_arg1, B_v15, B_arg0, B_arg1, A_v14, A_arg0, A_arg1]
  unfold ste quant onehot argmin; rfl
theorem perplexity_eq : after ops V (Proc.devRef .tc main_v42) = perplexity (V (Proc.devRef .tc main_arg0)) (V (Proc.devRef .tc main_arg1)) := by
  rw [ops, after_append, after_append, after_append, after_append, after_append, E_v42, D_v20, C_v20, H_v16, B_v15, A_v14]
  unfold perplexity encodings onehot argmin; rfl
theorem indices_eq : after ops V (Proc.devRef .tc main_v17) = indices (V (Proc.devRef .tc main_arg0)) (V (Proc.devRef .tc main_arg1)) := by
  rw [ops, after_append, after_append, after_append, after_append, after_append, E_v17, D_v17, C_v17, H_v15, B_v15, A_v14]
  unfold indices argmin; rfl
theorem encodings_eq : after ops V (Proc.devRef .tc main_v20) = encodings (V (Proc.devRef .tc main_arg0)) (V (Proc.devRef .tc main_arg1)) := by
  rw [ops, after_append, after_append, after_append, after_append, after_append, E_v20, D_v20, C_v20, H_v16, B_v15, A_v14]
  unfold encodings onehot argmin; rfl
theorem arg0_eq : after ops V (Proc.devRef .tc main_arg0) = V (Proc.devRef .tc main_arg0) := by
  rw [ops, after_append, after_append, after_append, after_append, after_append, E_arg0, D_arg0, C_arg0, H_arg0, B_arg0, A_arg0]
theorem arg1_eq : after ops V (Proc.devRef .tc main_arg1) = V (Proc.devRef .tc main_arg1) := by
  rw [ops, after_append, after_append, after_append, after_append, after_append, E_arg1, D_arg1, C_arg1, H_arg1, B_arg1, A_arg1]

end Parts

variable (m : (ℓ : Loc nD τ sig) → Buf (Elt F) ℓ) (ρ : Dev nD → PrngReg)

/-- The first argument's launch contents. -/
abbrev X (c : Dev nD) : Vec F S16x147456 .f32 := m ((c : Thread nD τ).loc main_arg0)
/-- The second argument's launch contents. -/
abbrev Wt (c : Dev nD) : Vec F S8192x256 .f32 := m ((c : Thread nD τ).loc main_arg1)

/-- From any memory with zero counters the reference terminates with its five results at the functions above of the
    arguments' launch contents, and the arguments unchanged. -/
theorem run : θ_run defs (onTc (τ := τ) (main (F := F))) ⟨m, fun _ => 0, ρ⟩ fun r => ∀ c : Dev nD,
      r.2.mem ((c : Thread nD τ).loc main_v30) = loss (X m c) (Wt m c)
      ∧ r.2.mem ((c : Thread nD τ).loc main_v32) = ste (X m c) (Wt m c)
      ∧ r.2.mem ((c : Thread nD τ).loc main_v42) = perplexity (X m c) (Wt m c)
      ∧ r.2.mem ((c : Thread nD τ).loc main_v17) = indices (X m c) (Wt m c)
      ∧ r.2.mem ((c : Thread nD τ).loc main_v20) = encodings (X m c) (Wt m c)
      ∧ r.2.mem ((c : Thread nD τ).loc main_arg0) = X m c
      ∧ r.2.mem ((c : Thread nD τ).loc main_arg1) = Wt m c :=
  (θ_run defs _ _).mono (fun _ h c =>
      ⟨(h c main_v30).trans (loss_eq _), (h c main_v32).trans (ste_eq _), (h c main_v42).trans (perplexity_eq _),
        (h c main_v17).trans (indices_eq _), (h c main_v20).trans (encodings_eq _), (h c main_arg0).trans (arg0_eq _),
        (h c main_arg1).trans (arg1_eq _)⟩)
    (run_seq scopedRefs_eq scopedSems_eq defs main (fun _ => ops) main_eq (fun _ => ops_sub) m ρ)

end Cert.ReferenceIdeal.Value

/-- The reference's frame: it terminates, leaves its arguments as they were, and every counter at zero (it has none). -/
theorem Cert.ReferenceIdeal.Value.frame : Cert.quiescent_ReferenceIdeal := fun m ρ _ =>
  (θ_run Cert.ReferenceIdeal.defs _ _).mono (fun r h => ⟨fun c => ⟨(h c).2.2.2.2.2.1, (h c).2.2.2.2.2.2⟩,
      Idealize.ShloMosaic.sem_eq_zero_of_no_sems (by decide) r.2⟩)
    (Cert.ReferenceIdeal.Value.run (F := Ideal) m ρ)

end
-- ==== Proof.RefChoice.lean ====
/-
  THE REFERENCE'S CHOICE, on extended reals: its distances are the plain ones, its argmin picks each row's first nearest
  code word, and its encodings are the one-hot rows of the choices.
-/
module

public import proofs.«01_k».proof.Proof.Inputs
public import proofs.«01_k».proof.Proof.RefRun
public import Idealize.ShloMosaic.Lib.IdealHost

@[expose] public section

noncomputable section

namespace Cert.ReferenceIdeal.Value

open Cert.ReferenceIdeal Cert.ReferenceIdeal.Gen Vq
open Cert.KernelIdeal.Value (rowsOf bookOf rowSum_apply bookSum_apply sum_onehot encAt encArr idxArr steArr)
open Idealize.ShloMosaic Idealize.ShloMosaic.ValueIdx Idealize.SL.Sem
open scoped BigOperators

/-- The reference's product of the rows with the transposed code book, at an index. -/
theorem dotA_apply (a : FVec Ideal S9216x256 .f32) (b : FVec Ideal S256x8192 .f32) (r : Fin 9216) (e : Fin 8192) :
    Host.dotGeneral dot_S9216x256_S256x8192_S9216x8192_1_0_0_1_n_n none a b (ix2 r e) = ∑ k : Fin 256, a (ix2 r k) * b (ix2 k e) := by
  simp only [Host.dotGeneral]
  rw [Ideal.dotGeneral_apply,
    ← Equiv.sum_comp (contrEquiv1 dot_S9216x256_S256x8192_S9216x8192_1_0_0_1_n_n 256 rfl rfl).symm]
  refine Finset.sum_congr rfl fun k _ => ?_
  exact congrArg₂ (fun y z => y * z) (congrArg a (Shape.idx_ext₂ rfl rfl)) (congrArg b (Shape.idx_ext₂ rfl rfl))

/-- The reference's product of the encodings with the code book, at an index. -/
theorem dotC_apply (a : FVec Ideal S9216x8192 .f32) (b : FVec Ideal S8192x256 .f32) (r : Fin 9216) (k : Fin 256) :
    Host.dotGeneral dot_S9216x8192_S8192x256_S9216x256_1_0_0_1_n_n none a b (ix2 r k) = ∑ e : Fin 8192, a (ix2 r e) * b (ix2 e k) := by
  simp only [Host.dotGeneral]
  rw [Ideal.dotGeneral_apply,
    ← Equiv.sum_comp (contrEquiv1 dot_S9216x8192_S8192x256_S9216x256_1_0_0_1_n_n 8192 rfl rfl).symm]
  refine Finset.sum_congr rfl fun e _ => ?_
  exact congrArg₂ (fun y z => y * z) (congrArg a (Shape.idx_ext₂ rfl rfl)) (congrArg b (Shape.idx_ext₂ rfl rfl))

/-- A vector laid along the rows of a 9216 × 8192 array, at an index. -/
theorem alongRows_apply {α : Type} (v : S9216.Idx → α) (r : Fin 9216) (e : Fin 8192) :
    broadcastInDim S9216x8192 ![0, 1] bcast_S9216x1_S9216x8192_0_1 (broadcastInDim S9216x1 ![0] bcast_S9216_S9216x1_0 v) (ix2 r e)
      = v (ix1 r) := by
  refine (broadcastInDim_apply ![0, 1] bcast_S9216x1_S9216x8192_0_1 _ (ix2 r e) (ix2 r 0) fun a => match a with
    | ⟨0, _⟩ => rfl
    | ⟨1, _⟩ => rfl).trans ?_
  exact broadcastInDim_apply ![0] bcast_S9216_S9216x1_0 v (ix2 r 0) (ix1 r) fun a => match a with
    | ⟨0, _⟩ => rfl

/-- A one-row array laid along the columns of a 9216 × 8192 array, at an index. -/
theorem alongCols_apply {α : Type} (v : S1x8192.Idx → α) (r : Fin 9216) (e : Fin 8192) :
    broadcastInDim S9216x8192 ![0, 1] bcast_S1x8192_S9216x8192_0_1 v (ix2 r e) = v (ix2 0 e) :=
  broadcastInDim_apply ![0, 1] bcast_S1x8192_S9216x8192_0_1 v (ix2 r e) (ix2 0 e) fun a => match a with
    | ⟨0, _⟩ => rfl
    | ⟨1, _⟩ => rfl

variable (x : FVec Ideal S16x147456 .f32) (w : FVec Ideal S8192x256 .f32)

/-- The host's sum of squares of a row. -/
theorem flatSum_apply (r : Fin 9216) (a : FVec Ideal S9216x256 .f32) (ha : ∀ k, a (ix2 r k) = rowsOf x r k) :
    Host.reduceAdd (mulf a a) (constant S_ .f32 0x00000000#32) reducesTo_S9216x256_S9216_d1 h_S_ (ix1 r) = sumSq (rowsOf x r) := by
  refine (rowSum_apply (mulf a a) r).trans (Finset.sum_congr rfl fun k _ => ?_)
  rw [mulf_apply, ha]

/-- THE REFERENCE'S DISTANCES are the plain ones. -/
theorem dist_apply (r : Fin 9216) (e : Fin 8192) :
    dist (F := Ideal) x w (ix2 r e) = distance (rowsOf x) (bookOf w) r e := by
  unfold dist
  rw [subf_apply, addf_apply, mulf_apply, alongRows_apply, alongCols_apply, dotA_apply]
  have h1 := flatSum_apply x r (flat (F := Ideal) x) fun k => rfl
  have h2 : broadcastInDim S1x8192 ![1] bcast_S8192_S1x8192_1
      (Host.reduceAdd (F := Ideal) (mulf w w) (constant S_ .f32 0x00000000#32) reducesTo_S8192x256_S8192_d1 h_S_) (ix2 0 e)
      = sumSq (bookOf w e) :=
    (broadcastInDim_apply ![1] bcast_S8192_S1x8192_1 _ (ix2 0 e) (ix1 e) fun a => match a with
      | ⟨0, _⟩ => rfl).trans (bookSum_apply _ e)
  have h3 : ∑ k : Fin 256, flat (F := Ideal) x (ix2 r k) * transpose S256x8192 [1, 0] w transposes_S8192x256_S256x8192_1_0 (ix2 k e)
      = ∑ k, rowsOf x r k * bookOf w e k :=
    Finset.sum_congr rfl fun k _ => congrArg (fun z => rowsOf x r k * z)
      (transpose_apply [1, 0] w transposes_S8192x256_S256x8192_1_0 (ix2 k e) (ix2 e k) fun a => match a with
        | ⟨0, _⟩ => rfl
        | ⟨1, _⟩ => rfl)
  rw [h1, h2, h3]
  rfl

/-- The reference's combination of two pairs of value and index picks one of them, the first in the order by value
    and then by index. -/
theorem reducer_least (a b : EReal × BitVec 32) :
    (reducer_argmin_f32_i32 (F := Ideal) a b = a ∧ key a ≤ key b) ∨ (reducer_argmin_f32_i32 (F := Ideal) a b = b ∧ key b ≤ key a) := by
  obtain ⟨a1, a2⟩ := a
  obtain ⟨b1, b2⟩ := b
  have hlt : FloatOps.cmpf (F := Ideal) (φ := .f32) .olt a1 b1 = BitVec.ofBool (decide (a1 < b1)) := by
    show Ideal.cmp _ _ _ = _
    unfold Ideal.cmp
    by_cases h : a1 < b1 <;> simp only [h, decide_true, decide_false] <;> rfl
  have heq : FloatOps.cmpf (F := Ideal) (φ := .f32) .oeq a1 b1 = BitVec.ofBool (decide (a1 = b1)) := by
    show Ideal.cmp _ _ _ = _
    unfold Ideal.cmp
    by_cases h : a1 = b1 <;> simp only [h, decide_true, decide_false] <;> rfl
  have hne : FloatOps.cmpf (F := Ideal) (φ := .f32) .une a1 a1 = 0#1 := by simp [Ideal.cmpf_def, Ideal.cmp]
  have hs : IntOp.cmpi .slt a2 b2 = BitVec.ofBool (decide (a2.toInt < b2.toInt)) := by
    show BitVec.ofBool (BitVec.slt _ _) = _
    rw [BitVec.slt_eq_decide]
  unfold reducer_argmin_f32_i32 key
  simp only [hlt, heq, hne, hs]
  rcases lt_trichotomy a1 b1 with h | h | h
  · left
    refine ⟨?_, Prod.Lex.le_iff.2 (Or.inl h)⟩
    rw [decide_eq_true h]
    cases decide (a1 = b1) <;> cases decide (a2.toInt < b2.toInt) <;> rfl
  · subst h
    by_cases h2 : a2.toInt < b2.toInt
    · left
      refine ⟨?_, Prod.Lex.le_iff.2 (Or.inr ⟨rfl, h2.le⟩)⟩
      rw [decide_eq_false (lt_irrefl a1), decide_eq_true (rfl : a1 = a1), decide_eq_true h2]
      rfl
    · right
      refine ⟨?_, Prod.Lex.le_iff.2 (Or.inr ⟨rfl, not_lt.1 h2⟩)⟩
      rw [decide_eq_false (lt_irrefl a1), decide_eq_true (rfl : a1 = a1), decide_eq_false h2]
      rfl
  · right
    refine ⟨?_, Prod.Lex.le_iff.2 (Or.inl h)⟩
    rw [decide_eq_false h.not_gt, decide_eq_false h.ne']
    cases decide (a2.toInt < b2.toInt) <;> rfl

/-- The pairs that a reduction of values and positions combines into one element are those of the indices that drop to it. -/
theorem mem_fiber {α β : Type} {s t : Shape} {axes : List (Fin s.rank)} (v : s.Idx → α) (p : s.Idx → β) (h : s.ReducesTo axes t)
    (j : t.Idx) (z : α × β) : z ∈ Host.argReduceFiber v p h j ↔ ∃ q : s.Idx, h.drop q = j ∧ z = (v q, p q) := by
  unfold Host.argReduceFiber
  rw [List.mem_map]
  constructor
  · rintro ⟨n, hn, rfl⟩
    rw [List.mem_filter] at hn
    exact ⟨s.rowMajor.symm n, of_decide_eq_true hn.2, rfl⟩
  · rintro ⟨q, hq, rfl⟩
    refine ⟨s.rowMajor q, List.mem_filter.2 ⟨List.mem_finRange _, decide_eq_true ?_⟩, ?_⟩
    · rw [Equiv.symm_apply_apply]; exact hq
    · rw [Equiv.symm_apply_apply]

/-- A pairwise reduction, from the pair of infinity and zero, by a combination that picks the first in the order by value
    and then by index, ends at the first minimum of the row that its pairs list. -/
theorem argReduce_firstMin {s t u : Shape} {axes : List (Fin s.rank)} {n : Nat}
    (f : EReal × BitVec 32 → EReal × BitVec 32 → EReal × BitVec 32)
    (hf : ∀ a b, (f a b = a ∧ key a ≤ key b) ∨ (f a b = b ∧ key b ≤ key a))
    (v : FVec Ideal s .f32) (p : s.Idx → BitVec 32) (iv : FVec Ideal u .f32) (ip : u.Idx → BitVec 32) (h : s.ReducesTo axes t)
    (hu : 0 < u.numel) (j : t.Idx) (hv : iv (Shape.Idx.first hu) = (⊤ : EReal)) (hp : ip (Shape.Idx.first hu) = 0#32)
    (g : Fin n → EReal) (hn : n < 2 ^ 31)
    (hL : ∀ z : EReal × BitVec 32, (∃ q : s.Idx, h.drop q = j ∧ z = (v q, p q)) ↔ ∃ e : Fin n, z = (g e, BitVec.ofNat 32 e.val))
    (i : Fin n) (hi : FirstMin g i) :
    Host.argReduce (F := Ideal) (φ := .f32) f v p iv ip h hu j = (g i, BitVec.ofNat 32 i.val) := by
  rw [Ideal.argReduce_eq_reduce2, Host.reduce2_eq_foldl_fiber, hv, hp]
  exact foldl_firstMin f hf _ hn (fun z => (mem_fiber v p h j z).trans (hL z)) hi

/-- The pairs of row `r`: the array's values along the row with their positions. -/
theorem row_pairs (d : FVec Ideal S9216x8192 .f32) (r : Fin 9216) (z : EReal × BitVec 32) :
    (∃ q : S9216x8192.Idx, Shape.ReducesTo.drop reducesTo_S9216x8192_S9216_d1 q = ix1 r ∧ z = (d q, iotaInDim S9216x8192 32 1 q))
      ↔ ∃ e : Fin 8192, z = (d (ix2 r e), BitVec.ofNat 32 e.val) := by
  constructor
  · rintro ⟨q, hd, rfl⟩
    have h0 : (q 0).val = r.val := by
      rw [← Shape.ReducesTo.drop_apply_val_of_eq reducesTo_S9216x8192_S9216_d1 q 0 0, hd]
    refine ⟨q 1, ?_⟩
    have hq : q = ix2 r (q 1) :=
      funext fun a => Fin.ext (match a with
        | ⟨0, _⟩ => h0
        | ⟨1, _⟩ => rfl)
    exact Prod.ext (congrArg d hq) rfl
  · rintro ⟨e, rfl⟩
    refine ⟨ix2 r e, funext fun b => Fin.ext ?_, rfl⟩
    match b with
    | ⟨0, _⟩ => exact Shape.ReducesTo.drop_apply_val_of_eq reducesTo_S9216x8192_S9216_d1 (ix2 r e) 0 0

/-- The infinity that the reference's argmin starts from. -/
theorem inf_top (j : S_.Idx) : (constant (F := Ideal) S_ .f32 0x7F800000#32 : FVec Ideal S_ .f32) j = (⊤ : EReal) := by
  show Ideal.ofBits .f32 0x7F800000#32 = ⊤
  simp [Ideal.ofBits, Ideal.ieee]

/-- The reference's argmin is the position that its pairwise reduction ends at. -/
theorem argminOf_eq (d : FVec Ideal S9216x8192 .f32) : argminOf (F := Ideal) d
    = fun j => (Host.argReduce (F := Ideal) (φ := .f32) reducer_argmin_f32_i32 d (iotaInDim S9216x8192 32 1) (constant S_ .f32 0x7F800000#32)
        (constantI S_ 32 0#32) reducesTo_S9216x8192_S9216_d1 h_S_ j).2 := by
  delta argminOf
  rfl

/-- THE REFERENCE'S ARGMIN of an array is each row's first minimum. -/
theorem argminOf_apply (d : FVec Ideal S9216x8192 .f32) (r : Fin 9216) (i : Fin 8192) (hi : FirstMin (fun e => d (ix2 r e)) i) :
    argminOf (F := Ideal) d (ix1 r) = BitVec.ofNat 32 i.val :=
  (congrFun (argminOf_eq d) (ix1 r)).trans (congrArg Prod.snd (argReduce_firstMin (reducer_argmin_f32_i32 (F := Ideal)) reducer_least d (iotaInDim S9216x8192 32 1)
    (constant S_ .f32 0x7F800000#32) (constantI S_ 32 0#32) reducesTo_S9216x8192_S9216_d1 h_S_ (ix1 r) (inf_top _) rfl
    (fun e => d (ix2 r e)) (by norm_num) (row_pairs d r) i hi))

/-- THE REFERENCE'S CHOICE of a row is the specification's. -/
theorem argmin_apply (r : Fin 9216) :
    argmin (F := Ideal) x w (ix1 r) = BitVec.ofNat 32 (code (rowsOf x) (bookOf w) r).val := by
  refine argminOf_apply _ r _ ?_
  rw [show (fun e => dist (F := Ideal) x w (ix2 r e)) = distance (rowsOf x) (bookOf w) r from funext fun e => dist_apply x w r e]
  exact code_spec _ _ r

/-- THE REFERENCE'S ENCODINGS are the one-hot rows of the choices. -/
theorem onehot_eq : onehot (F := Ideal) x w = encArr (rowsOf x) (bookOf w) := by
  funext j
  obtain ⟨r, e, rfl⟩ : ∃ (r : Fin 9216) (e : Fin 8192), j = ix2 r e := ⟨j 0, j 1, eq_ix2 (n0 := 9216) (n1 := 8192) j⟩
  have be := e.isLt
  have bi := (code (rowsOf x) (bookOf w) r).isLt
  show onehot (F := Ideal) x w (ix2 r e) = encAt (rowsOf x) (bookOf w) r e
  unfold onehot onehotOf
  show FloatOps.uitofp (F := Ideal) .f32 (IntOp.cmpi .eq
    (broadcastInDim S9216x8192 ![0, 1] bcast_S9216x1_S9216x8192_0_1 (broadcastInDim S9216x1 ![0] bcast_S9216_S9216x1_0 (argmin (F := Ideal) x w)) (ix2 r e))
    (broadcastInDim S9216x8192 ![0, 1] bcast_S1x8192_S9216x8192_0_1 (iotaInDim S1x8192 32 1) (ix2 r e))) = _
  rw [alongRows_apply, alongCols_apply, argmin_apply]
  rw [show (iotaInDim S1x8192 32 1 : IVec S1x8192 32) (ix2 0 e) = BitVec.ofNat 32 e.val from rfl]
  rw [eq_ofNat (by omega) (by omega)]
  unfold encAt
  by_cases h : e = code (rowsOf x) (bookOf w) r
  · rw [if_pos h, decide_eq_true (congrArg Fin.val h).symm]
    show (((1 : ℕ) : ℝ) : EReal) = 1
    simp
  · rw [if_neg h, decide_eq_false (fun h' => h (Fin.ext h'.symm))]
    show (((0 : ℕ) : ℝ) : EReal) = 0
    simp

end Cert.ReferenceIdeal.Value
-- ==== Proof.RefValue.lean ====
/-
  THE REFERENCE'S FIVE RESULTS, on extended reals, as the kernel's results are read: from the rows, the code book and the
  choices.
-/
module

public import proofs.«01_k».proof.Proof.RefChoice
public import proofs.«01_k».proof.Proof.KernelValue

@[expose] public section

noncomputable section

namespace Cert.ReferenceIdeal.Value

open Cert.ReferenceIdeal Cert.ReferenceIdeal.Gen Vq
open Cert.KernelIdeal.Value (rowsOf bookOf sum_onehot encAt encArr idxArr steArr idxRes idxRes_apply choice rowAt perpVal lossFrom)
open Idealize.ShloMosaic Idealize.ShloMosaic.ValueIdx Idealize.SL.Sem
open scoped BigOperators

variable (x : FVec Ideal S16x147456 .f32) (w : FVec Ideal S8192x256 .f32)

/-! ## The indices and the encodings -/

/-- THE REFERENCE'S INDICES are the kernel's. -/
theorem indices_val : indices (F := Ideal) x w = idxRes (rowsOf x) (bookOf w) := by
  funext j
  obtain ⟨b, t, rfl⟩ : ∃ (b : Fin 16) (t : Fin 576), j = ix2 b t := ⟨j 0, j 1, eq_ix2 (n0 := 16) (n1 := 576) j⟩
  refine Eq.trans ?_ (idxRes_apply (rowsOf x) (bookOf w) b t).symm
  unfold indices
  refine (shapeCast_apply _ shapeCasts_S9216_S16x576 (ix2 b t) (ix1 (rowAt b t)) ?_).trans (argmin_apply x w (rowAt b t))
  rw [Shape.rowMajor_val_one, Shape.rowMajor_val_two]
  rfl

/-- THE REFERENCE'S ENCODINGS are the kernel's. -/
theorem encodings_val : encodings (F := Ideal) x w
    = shapeCast S16x576x8192 (encArr (rowsOf x) (bookOf w)) shapeCasts_S9216x8192_S16x576x8192 := by
  unfold encodings
  rw [onehot_eq]

/-! ## The quantized vectors, the straight-through result and the loss -/

/-- The chosen code words, row by row. -/
def pick : FVec Ideal S9216x256 .f32 := fun i => bookOf w (code (rowsOf x) (bookOf w) (i 0)) (i 1)

/-- The reference's quantized vectors are the chosen code words, in the inputs' shape. -/
theorem quant_val : quant (F := Ideal) x w = shapeCast S16x147456 (pick x w) shapeCasts_S9216x256_S16x147456 := by
  unfold quant quantOf
  rw [onehot_eq]
  refine congrArg (fun z => shapeCast S16x147456 z shapeCasts_S9216x256_S16x147456) (funext fun j => ?_)
  obtain ⟨r, k, rfl⟩ : ∃ (r : Fin 9216) (k : Fin 256), j = ix2 r k := ⟨j 0, j 1, eq_ix2 (n0 := 9216) (n1 := 256) j⟩
  refine (dotC_apply _ w r k).trans ?_
  exact sum_onehot (code (rowsOf x) (bookOf w) r) fun e => bookOf w e k

/-- An array laid out again as rows and back is itself. -/
theorem flat_back : shapeCast S16x147456 (flat (F := Ideal) x) shapeCasts_S9216x256_S16x147456 = x := by
  unfold flat
  rw [shapeCast_shapeCast]

/-- The errors, row by row. -/
def errArr : FVec Ideal S9216x256 .f32 := fun i => err (rowsOf x) (bookOf w) (i 0) (i 1)

/-- The reference's quantized vectors less its inputs are the errors, in the inputs' shape. -/
theorem diff_val : subf (quant (F := Ideal) x w) x = shapeCast S16x147456 (errArr x w) shapeCasts_S9216x256_S16x147456 := by
  rw [quant_val]
  refine (congrArg (fun z => subf (shapeCast S16x147456 (pick x w) shapeCasts_S9216x256_S16x147456) z) (flat_back x).symm).trans ?_
  refine (rfl : _ = shapeCast S16x147456 (subf (pick x w) (flat (F := Ideal) x)) shapeCasts_S9216x256_S16x147456).trans ?_
  refine congrArg (fun z => shapeCast S16x147456 z shapeCasts_S9216x256_S16x147456) (funext fun j => ?_)
  obtain ⟨r, k, rfl⟩ : ∃ (r : Fin 9216) (k : Fin 256), j = ix2 r k := ⟨j 0, j 1, eq_ix2 (n0 := 9216) (n1 := 256) j⟩
  rw [subf_apply]
  rfl

/-- THE REFERENCE'S STRAIGHT-THROUGH RESULT is the kernel's. -/
theorem ste_val : ste (F := Ideal) x w
    = shapeCast S16x147456 (steArr (rowsOf x) (bookOf w)) shapeCasts_S9216x256_S16x147456 := by
  unfold ste
  rw [diff_val]
  refine (congrArg (fun z => addf z (shapeCast S16x147456 (errArr x w) shapeCasts_S9216x256_S16x147456)) (flat_back x).symm).trans ?_
  refine (rfl : _ = shapeCast S16x147456 (addf (flat (F := Ideal) x) (errArr x w)) shapeCasts_S9216x256_S16x147456).trans ?_
  refine congrArg (fun z => shapeCast S16x147456 z shapeCasts_S9216x256_S16x147456) (funext fun j => ?_)
  obtain ⟨r, k, rfl⟩ : ∃ (r : Fin 9216) (k : Fin 256), j = ix2 r k := ⟨j 0, j 1, eq_ix2 (n0 := 9216) (n1 := 256) j⟩
  rw [addf_apply]
  rfl

/-- The reference's sum of squared errors is the total. -/
theorem sumErr_val : Host.reduceAdd (F := Ideal) (mulf (subf (quant (F := Ideal) x w) x) (subf (quant (F := Ideal) x w) x))
    (constant S_ .f32 0x00000000#32) reducesTo_S16x147456_S_d0_1 h_S_ = fun _ => total (rowsOf x) (bookOf w) := by
  rw [diff_val]
  funext j
  refine (Ideal.hostReduceAdd_total reducesTo_S16x147456_S_d0_1 (fun b => b.elim0) _ _ j).trans ?_
  show Ideal.ofBits .f32 0x00000000#32 + _ = _
  rw [Ideal.ofBits_zero_f32, zero_add]
  refine ((Shape.reshapeEquiv shapeCasts_S9216x256_S16x147456).sum_comp (mulf (errArr x w) (errArr x w))).trans ?_
  exact sum_idx2 _

/-- THE REFERENCE'S LOSS is the kernel's. -/
theorem loss_val : loss (F := Ideal) x w = lossFrom (fun _ => total (rowsOf x) (bookOf w)) := by
  unfold loss lossOf mseOf
  rw [sumErr_val]

/-! ## The perplexity -/

/-- The reference's encodings, at a batch row, a position and a code word. -/
theorem encodings_apply (b : Fin 16) (t : Fin 576) (e : Fin 8192) :
    encodings (F := Ideal) x w (ix3 b t e) = if choice (rowsOf x) (bookOf w) b t = e then 1 else 0 := by
  rw [encodings_val]
  refine (shapeCast_apply _ shapeCasts_S9216x8192_S16x576x8192 (ix3 b t e) (ix2 (rowAt b t) e) ?_).trans ?_
  · rw [Shape.rowMajor_val_two, Shape.rowMajor_val_three]
    rfl
  · show encAt (rowsOf x) (bookOf w) (rowAt b t) e = _
    unfold encAt choice
    exact if_congr eq_comm rfl rfl

variable (q : Fin 16 → Fin 576 → Fin 8192)

/-- The mean over the batch of one-hot rows is a sixteenth of the number of batch rows with that choice. -/
theorem probs_apply (a : FVec Ideal S16x576x8192 .f32) (ha : ∀ b t e, a (ix3 b t e) = if q b t = e then 1 else 0)
    (t : Fin 576) (e : Fin 8192) : probsOf (F := Ideal) a (ix2 t e) = mean (level q t e) := by
  unfold probsOf
  rw [hostDivf_apply]
  have h1 : Host.reduceAdd (F := Ideal) a (constant S_ .f32 0x00000000#32) reducesTo_S16x576x8192_S576x8192_d0 h_S_ (ix2 t e)
      = (((level q t e : ℕ) : ℝ) : EReal) := by
    refine (Ideal.hostReduceAdd_single reducesTo_S16x576x8192_S576x8192_d0 (by decide) a _ (ix2 t e)).trans ?_
    show Ideal.ofBits .f32 0x00000000#32 + _ = _
    rw [Ideal.ofBits_zero_f32, zero_add]
    unfold level
    rw [Nat.cast_sum, coe_sum]
    refine Finset.sum_congr rfl fun b _ => ?_
    have hx : Shape.Reduces.lift (s := S16x576x8192) (a := 0) (t := S576x8192) (by decide) (ix2 t e) b = ix3 b t e :=
      funext fun c => Fin.ext (match c with
        | ⟨0, _⟩ => rfl
        | ⟨1, _⟩ => rfl
        | ⟨2, _⟩ => rfl)
    refine (congrArg a hx).trans ((ha b t e).trans ?_)
    split <;> simp
  have h2 : broadcastInDim S576x8192 ![] bcast_S_S576x8192 (constant (F := Ideal) S_ .f32 0x41800000#32) (ix2 t e)
      = (((16 : ℝ)) : EReal) := sixteen
  rw [h1, h2]
  show Ideal.div _ _ = _
  rw [Ideal.div_coe (by norm_num)]
  unfold mean
  rw [← EReal.coe_mul]

/-- The sum over positions and code words of each mean times its logarithm, from the choices. -/
theorem plogp_val (a : FVec Ideal S16x576x8192 .f32) (ha : ∀ b t e, a (ix3 b t e) = if q b t = e then 1 else 0) :
    Host.reduceAdd (F := Ideal) (mulf (probsOf (F := Ideal) a) (Host.log (addf (probsOf (F := Ideal) a)
        (broadcastInDim S576x8192 ![] bcast_S_S576x8192 (constant S_ .f32 0x3727C5AC#32)))))
      (constant S_ .f32 0x00000000#32) reducesTo_S576x8192_S_d0_1 h_S_
      = fun _ => (∑ b, ∑ t, logMean (level q t (q b t))) * (((1 : ℝ) / 16 : ℝ) : EReal) := by
  funext j
  refine (Ideal.hostReduceAdd_total reducesTo_S576x8192_S_d0_1 (fun b => b.elim0) _ _ j).trans ?_
  show Ideal.ofBits .f32 0x00000000#32 + _ = _
  rw [Ideal.ofBits_zero_f32, zero_add]
  refine (sum_idx2 _).trans (Eq.trans ?_ (perplexity_sum q))
  refine Finset.sum_congr rfl fun t _ => Finset.sum_congr rfl fun e _ => ?_
  rw [mulf_apply, probs_apply q a ha]
  refine congrArg (fun z => mean (level q t e) * z) ?_
  rw [show ∀ v : FVec Ideal S576x8192 .f32, Host.log v (ix2 t e) = Ideal.log (v (ix2 t e)) from fun v => rfl,
    addf_apply, probs_apply q a ha]
  rfl

/-- The perplexity of one-hot rows, from their choices. -/
theorem perp_val (a : FVec Ideal S16x576x8192 .f32) (ha : ∀ b t e, a (ix3 b t e) = if q b t = e then 1 else 0) :
    perpOf (F := Ideal) a = fun _ => perpVal q := by
  unfold perpOf perpVal
  rw [plogp_val q a ha]
  generalize (∑ b, ∑ t, logMean (level q t (q b t))) * (((1 : ℝ) / 16 : ℝ) : EReal) = y
  rw [zero_sub]
  rfl

/-- THE REFERENCE'S PERPLEXITY is the kernel's. -/
theorem perplexity_val : perplexity (F := Ideal) x w = fun _ => perpVal (choice (rowsOf x) (bookOf w)) :=
  perp_val _ _ (encodings_apply x w)

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Kernel and reference end with the same five results: the loss, the straight-through result, the perplexity, the
    indices and the encodings. -/
theorem algebraic : Cert.algebraic_KernelIdeal_ReferenceIdeal := by
  intro m g m' g' _ hm
  refine ⟨_, _, _, _, _, Cert.KernelIdeal.Value.run_results (F := Ideal) m g, ?_⟩
  refine (θ_run Cert.ReferenceIdeal.defs _ _).mono (fun r h c => ?_) (Cert.ReferenceIdeal.Value.run (F := Ideal) m' g')
  obtain ⟨h1, h2, h3, h4, h5, h6, h7⟩ := h c
  have e0 : Cert.ReferenceIdeal.Value.X m' c = Cert.KernelIdeal.Value.Xin m c := (hm c).1
  have e1 : Cert.ReferenceIdeal.Value.Wt m' c = Cert.KernelIdeal.Value.Win m c := (hm c).2
  rw [e0, e1] at h1 h2 h3 h4 h5
  exact ⟨h1.trans ((Cert.ReferenceIdeal.Value.loss_val _ _).trans (Cert.KernelIdeal.Value.res_loss m g c).symm),
    h2.trans ((Cert.ReferenceIdeal.Value.ste_val _ _).trans (Cert.KernelIdeal.Value.res_ste m g c).symm),
    h3.trans ((Cert.ReferenceIdeal.Value.perplexity_val _ _).trans (Cert.KernelIdeal.Value.res_perplexity m g c).symm),
    h4.trans ((Cert.ReferenceIdeal.Value.indices_val _ _).trans (Cert.KernelIdeal.Value.res_indices m g c).symm),
    h5.trans ((Cert.ReferenceIdeal.Value.encodings_val _ _).trans (Cert.KernelIdeal.Value.res_encodings m g c).symm),
    h6, h7⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  Cert.ReferenceIdeal.Value.frame,
  trivial,
  algebraic⟩

end Cert.Proof

end
